-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x256 : Shape := ⟨2, ![32768, 256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x256 : Shape := ⟨2, ![64, 256]⟩
abbrev S256 : Shape := ⟨1, ![256]⟩
abbrev S1024x64 : Shape := ⟨2, ![1024, 64]⟩
abbrev S32768x64 : Shape := ⟨2, ![32768, 64]⟩
abbrev S1 : Shape := ⟨1, ![1]⟩
abbrev S4096x256 : Shape := ⟨2, ![4096, 256]⟩
abbrev S4096x64 : Shape := ⟨2, ![4096, 64]⟩
abbrev S2 : Shape := ⟨1, ![2]⟩
abbrev S1x64 : Shape := ⟨2, ![1, 64]⟩
abbrev S4096x128 : Shape := ⟨2, ![4096, 128]⟩
abbrev S1x128 : Shape := ⟨2, ![1, 128]⟩
abbrev S4096x1024 : Shape := ⟨2, ![4096, 1024]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S1x256 : Shape := ⟨2, ![1, 256]⟩
abbrev S1x4096x64 : Shape := ⟨3, ![1, 4096, 64]⟩
abbrev S1x1x1 : Shape := ⟨3, ![1, 1, 1]⟩
abbrev S1x4096x256 : Shape := ⟨3, ![1, 4096, 256]⟩

abbrev nBuf : Space → Nat
  | .hbm => 16
  | .vmem => 17
  | .smem => 2
  | _ => 0

abbrev bufTy : (tb : Table) → Fin (tcTables nBuf tb) → BufTy
  | .hbm, ⟨0, _⟩ => ⟨S32768x256, .f32⟩
  | .hbm, ⟨1, _⟩ => ⟨S256x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x256, .f32⟩
  | .hbm, ⟨12, _⟩ => ⟨S256, .f32⟩
  | .hbm, ⟨13, _⟩ => ⟨S1024x64, .f32⟩
  | .hbm, ⟨14, _⟩ => ⟨S32768x64, .f32⟩
  | .hbm, ⟨15, _⟩ => ⟨S1, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S64, .f32⟩
  | .local _ .vmem, ⟨4, _⟩ => ⟨S64x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S64x256, .f32⟩
  | .local _ .vmem, ⟨13, _⟩ => ⟨S256, .f32⟩
  | .local _ .vmem, ⟨14, _⟩ => ⟨S1024x64, .f32⟩
  | .local _ .vmem, ⟨15, _⟩ => ⟨S4096x64, .f32⟩
  | .local _ .vmem, ⟨16, _⟩ => ⟨S4096x64, .f32⟩
  | .local _ .smem, ⟨0, _⟩ => ⟨S1, .f32⟩
  | .local _ .smem, ⟨1, _⟩ => ⟨S2, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v98 : BitVec 1 := Scalar.cmpi .eq arg0 c7_i32
  let v99 : BitVec 32 := Scalar.extui v98
  let c0_i32_48 : BitVec 32 := 0#32
  let v100 : BitVec 1 := Scalar.cmpi .ne v99 c0_i32_48
  v100

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4096x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S32768x256 : Shape := ⟨2, ![32768, 256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x256 : Shape := ⟨2, ![64, 256]⟩
abbrev S256 : Shape := ⟨1, ![256]⟩
abbrev S1024x64 : Shape := ⟨2, ![1024, 64]⟩
abbrev S32768x64 : Shape := ⟨2, ![32768, 64]⟩
abbrev S1x64 : Shape := ⟨2, ![1, 64]⟩
abbrev S_ : Shape := ⟨0, ![]⟩
abbrev S32768x128 : Shape := ⟨2, ![32768, 128]⟩
abbrev S1x128 : Shape := ⟨2, ![1, 128]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x256 : Shape := ⟨2, ![1, 256]⟩

abbrev nBuf : Space → Nat
  | .hbm => 126
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S256x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x256, .f32⟩
  | .hbm, ⟨12, _⟩ => ⟨S256, .f32⟩
  | .hbm, ⟨13, _⟩ => ⟨S1024x64, .f32⟩
  | .hbm, ⟨14, _⟩ => ⟨S32768x64, .f32⟩
  | .hbm, ⟨15, _⟩ => ⟨S1x64, .f32⟩
  | .hbm, ⟨16, _⟩ => ⟨S32768x64, .f32⟩
  | .hbm, ⟨17, _⟩ => ⟨S32768x64, .f32⟩
  | .hbm, ⟨18, _⟩ => ⟨S_, .f32⟩
  | .hbm, ⟨19, _⟩ => ⟨S32768x64, .f32⟩
  | .hbm, ⟨20, _⟩ => ⟨S32768x64, .f32⟩
  | .hbm, ⟨21, _⟩ => ⟨S32768x128, .f32⟩
  | .hbm, ⟨22, _⟩ => ⟨S1x128, .f32⟩
  | .hbm, ⟨23, _⟩ => ⟨S32768x128, .f32⟩
  | .hbm, ⟨24, _⟩ => ⟨S32768x128, .f32⟩
  | .hbm, ⟨25, _⟩ => ⟨S_, .f32⟩
  | .hbm, ⟨26, _⟩ => ⟨S32768x128, .f32⟩
  | .hbm, ⟨27, _⟩ => ⟨S32768x128, .f32⟩
  | .hbm, ⟨28, _⟩ => ⟨S32768x64, .f32⟩
  | .hbm, ⟨29, _⟩ => ⟨S1x64, .f32⟩
  | .hbm, ⟨30, _⟩ => ⟨S32768x64, .f32⟩
  | .hbm, ⟨31, _⟩ => ⟨S32768x64, .f32⟩
  | .hbm, ⟨32, _⟩ => ⟨S_, .f32⟩
  | .hbm, ⟨33, _⟩ => ⟨S32768x64, .f32⟩
  | .hbm, ⟨34, _⟩ => ⟨S32768x64, .f32⟩
  | .hbm, ⟨35, _⟩ => ⟨S32768x64, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S64x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S1024x64, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .i32⟩
  | .hbm, ⟨53, _⟩ => ⟨S_, .f32⟩
  | .hbm, ⟨54, _⟩ => ⟨S_, .i32⟩
  | .hbm, ⟨55, _⟩ => ⟨S32768, .f32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S1, .i32⟩
  | .hbm, ⟨66, _⟩ => ⟨S_, .i32⟩
  | .hbm, ⟨67, _⟩ => ⟨S32768x1, .i32⟩
  | .hbm, ⟨68, _⟩ => ⟨S32768x1, .i1⟩
  | .hbm, ⟨69, _⟩ => ⟨S1x1, .i32⟩
  | .hbm, ⟨70, _⟩ => ⟨S32768x1, .i32⟩
  | .hbm, ⟨71, _⟩ => ⟨S32768x1, .i1⟩
  | .hbm, ⟨72, _⟩ => ⟨S32768x1, .i1⟩
  | .hbm, ⟨73, _⟩ => ⟨S_, .i1⟩
  | .hbm, ⟨74, _⟩ => ⟨S32768, .i1⟩
  | .hbm, ⟨75, _⟩ => ⟨S32768x64, .f32⟩
  | .hbm, ⟨76, _⟩ => ⟨S32768x64, .i1⟩
  | .hbm, ⟨77, _⟩ => ⟨S_, .f32⟩
  | .hbm, ⟨78, _⟩ => ⟨S32768x64, .f32⟩
  | .hbm, ⟨79, _⟩ => ⟨S32768x64, .f32⟩
  | .hbm, ⟨80, _⟩ => ⟨S32768x64, .f32⟩
  | .hbm, ⟨81, _⟩ => ⟨S32768x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S32768x64, .f32⟩
  | .hbm, ⟨89, _⟩ => ⟨S32768x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S32768x64, .f32⟩
  | .hbm, ⟨96, _⟩ => ⟨S32768x64, .f32⟩
  | .hbm, ⟨97, _⟩ => ⟨S32768x128, .f32⟩
  | .hbm, ⟨98, _⟩ => ⟨S1x128, .f32⟩
  | .hbm, ⟨99, _⟩ => ⟨S32768x128, .f32⟩
  | .hbm, ⟨100, _⟩ => ⟨S32768x128, .f32⟩
  | .hbm, ⟨101, _⟩ => ⟨S_, .f32⟩
  | .hbm, ⟨102, _⟩ => ⟨S32768x128, .f32⟩
  | .hbm, ⟨103, _⟩ => ⟨S32768x128, .f32⟩
  | .hbm, ⟨104, _⟩ => ⟨S32768x64, .f32⟩
  | .hbm, ⟨105, _⟩ => ⟨S1x64, .f32⟩
  | .hbm, ⟨106, _⟩ => ⟨S32768x64, .f32⟩
  | .hbm, ⟨107, _⟩ => ⟨S32768x64, .f32⟩
  | .hbm, ⟨108, _⟩ => ⟨S_, .f32⟩
  | .hbm, ⟨109, _⟩ => ⟨S32768x64, .f32⟩
  | .hbm, ⟨110, _⟩ => ⟨S32768x64, .f32⟩
  | .hbm, ⟨111, _⟩ => ⟨S32768x256, .f32⟩
  | .hbm, ⟨112, _⟩ => ⟨S1x256, .f32⟩
  | .hbm, ⟨113, _⟩ => ⟨S32768x256, .f32⟩
  | .hbm, ⟨114, _⟩ => ⟨S32768x256, .f32⟩
  | .hbm, ⟨115, _⟩ => ⟨S_, .f32⟩
  | .hbm, ⟨116, _⟩ => ⟨S32768x256, .f32⟩
  | .hbm, ⟨117, _⟩ => ⟨S32768x256, .f32⟩
  | .hbm, ⟨118, _⟩ => ⟨S32768x256, .f32⟩
  | .hbm, ⟨119, _⟩ => ⟨S32768x256, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call3_v0 : Ref sig .tc := ⟨.hbm, 52, rfl⟩
abbrev main_call3_cst : Ref sig .tc := ⟨.hbm, 53, rfl⟩
abbrev main_call3_c : Ref sig .tc := ⟨.hbm, 54, rfl⟩
abbrev main_call3_v1_0 : Ref sig .tc := ⟨.hbm, 55, rfl⟩
abbrev main_v29 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_v14 : Ref sig .tc := ⟨.hbm, 76, rfl⟩
abbrev main_call4_cst : Ref sig .tc := ⟨.hbm, 77, rfl⟩
abbrev main_call4_v15 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_2 : Ref sig .tc := ⟨.hbm, 82, rfl⟩
abbrev main_v33 : Ref sig .tc := ⟨.hbm, 83, rfl⟩
abbrev main_cst_3 : Ref sig .tc := ⟨.hbm, 84, rfl⟩
abbrev main_v34 : Ref sig .tc := ⟨.hbm, 85, rfl⟩
abbrev main_cst_4 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_5 : Ref sig .tc := ⟨.hbm, 90, rfl⟩
abbrev main_v38 : Ref sig .tc := ⟨.hbm, 91, rfl⟩
abbrev main_cst_6 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_call5_cst : Ref sig .tc := ⟨.hbm, 101, rfl⟩
abbrev main_call5_v0 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_call6_cst : Ref sig .tc := ⟨.hbm, 108, rfl⟩
abbrev main_call6_v0 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_call7_cst : Ref sig .tc := ⟨.hbm, 115, rfl⟩
abbrev main_call7_v0 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_7 : Ref sig .tc := ⟨.hbm, 120, rfl⟩
abbrev main_v60 : Ref sig .tc := ⟨.hbm, 121, rfl⟩
abbrev main_cst_8 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩

abbrev nD : Nat := 1
abbrev τ : Topo := Topo.v7x

variable {F : FTy → Type} [FloatOps F]
-- ==== Proof.KernelInputs.lean ====
/- The blocks the kernel's grid points read: each parameter whole, and the batch cut into eight runs of rows. -/
module

public import proofs.«01_k».proof.Proof.Gen.KernelIdeal.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The grid has eight points. -/
theorem points (t : Fin cfg0.N) : t.val < 8 := lt_of_lt_of_eq t.isLt (show cfg0.N = 8 from N_0)

theorem index0 : ∀ t : Fin cfg0.N, win0_0.index t 0 = t.val ∧ win0_0.index t 1 = 0 := (by decide +kernel : ∀ t : Fin grid0.N, _)

/-- Row `r` of the batch's block at point `t` is row `4096 t + r` of the batch. -/
theorem block0 (t : Fin cfg0.N) (r : Fin 4096) (i : Fin 256) (h : 4096 * t.val + r.val < 32768) :
    (iblk m c 0 t : Vec F S4096x256 .f32) (ix2 r i)
      = (m ((c : Thread nD τ).loc main_arg0) : Vec F S32768x256 .f32) (ix2 ⟨4096 * t.val + r.val, h⟩ i) := by
  have hi := index0 t
  unfold iblk
  rw [View.read_apply]
  show V m c main_arg0 _ = m ((c : Thread nD τ).loc main_arg0) _
  unfold V
  congr 1
  funext a
  apply Fin.ext
  match a with
  | ⟨0, _⟩ => show win0_0.index t 0 * 4096 + 1 * r.val = 4096 * t.val + r.val; rw [hi.1]; omega
  | ⟨1, _⟩ => show win0_0.index t 1 * 256 + 1 * i.val = i.val; rw [hi.2]; omega

theorem index1 : ∀ t : Fin cfg0.N, win0_1.index t 0 = 0 ∧ win0_1.index t 1 = 0 := (by decide +kernel : ∀ t : Fin grid0.N, _)

/-- Window 1's block is the whole of its array. -/
theorem block1 (t : Fin cfg0.N) : (iblk m c 1 t : Vec F S256x64 .f32) = m ((c : Thread nD τ).loc main_arg1) := by
  have hi := index1 t
  funext j
  unfold iblk
  rw [View.read_apply]
  show V m c main_arg1 _ = m ((c : Thread nD τ).loc main_arg1) _
  unfold V
  congr 1
  funext a
  apply Fin.ext
  match a with
  | ⟨0, _⟩ => show win0_1.index t 0 * 256 + 1 * (j 0).val = (j 0).val; rw [hi.1]; omega
  | ⟨1, _⟩ => show win0_1.index t 1 * 64 + 1 * (j 1).val = (j 1).val; rw [hi.2]; omega

theorem index2 : ∀ t : Fin cfg0.N, win0_2.index t 0 = 0 := (by decide +kernel : ∀ t : Fin grid0.N, _)

/-- Window 2's block is the whole of its array. -/
theorem block2 (t : Fin cfg0.N) : (iblk m c 2 t : Vec F S64 .f32) = m ((c : Thread nD τ).loc main_arg2) := by
  have hi := index2 t
  funext j
  unfold iblk
  rw [View.read_apply]
  show V m c main_arg2 _ = m ((c : Thread nD τ).loc main_arg2) _
  unfold V
  congr 1
  funext a
  apply Fin.ext
  match a with
  | ⟨0, _⟩ => show win0_2.index t 0 * 64 + 1 * (j 0).val = (j 0).val; rw [hi]; omega

theorem index3 : ∀ t : Fin cfg0.N, win0_3.index t 0 = 0 ∧ win0_3.index t 1 = 0 := (by decide +kernel : ∀ t : Fin grid0.N, _)

/-- Window 3's block is the whole of its array. -/
theorem block3 (t : Fin cfg0.N) : (iblk m c 3 t : Vec F S64x128 .f32) = m ((c : Thread nD τ).loc main_arg3) := by
  have hi := index3 t
  funext j
  unfold iblk
  rw [View.read_apply]
  show V m c main_arg3 _ = m ((c : Thread nD τ).loc main_arg3) _
  unfold V
  congr 1
  funext a
  apply Fin.ext
  match a with
  | ⟨0, _⟩ => show win0_3.index t 0 * 64 + 1 * (j 0).val = (j 0).val; rw [hi.1]; omega
  | ⟨1, _⟩ => show win0_3.index t 1 * 128 + 1 * (j 1).val = (j 1).val; rw [hi.2]; omega

theorem index4 : ∀ t : Fin cfg0.N, win0_4.index t 0 = 0 := (by decide +kernel : ∀ t : Fin grid0.N, _)

/-- Window 4's block is the whole of its array. -/
theorem block4 (t : Fin cfg0.N) : (iblk m c 4 t : Vec F S128 .f32) = m ((c : Thread nD τ).loc main_arg4) := by
  have hi := index4 t
  funext j
  unfold iblk
  rw [View.read_apply]
  show V m c main_arg4 _ = m ((c : Thread nD τ).loc main_arg4) _
  unfold V
  congr 1
  funext a
  apply Fin.ext
  match a with
  | ⟨0, _⟩ => show win0_4.index t 0 * 128 + 1 * (j 0).val = (j 0).val; rw [hi]; omega

theorem index5 : ∀ t : Fin cfg0.N, win0_5.index t 0 = 0 ∧ win0_5.index t 1 = 0 := (by decide +kernel : ∀ t : Fin grid0.N, _)

/-- Window 5's block is the whole of its array. -/
theorem block5 (t : Fin cfg0.N) : (iblk m c 5 t : Vec F S128x64 .f32) = m ((c : Thread nD τ).loc main_arg5) := by
  have hi := index5 t
  funext j
  unfold iblk
  rw [View.read_apply]
  show V m c main_arg5 _ = m ((c : Thread nD τ).loc main_arg5) _
  unfold V
  congr 1
  funext a
  apply Fin.ext
  match a with
  | ⟨0, _⟩ => show win0_5.index t 0 * 128 + 1 * (j 0).val = (j 0).val; rw [hi.1]; omega
  | ⟨1, _⟩ => show win0_5.index t 1 * 64 + 1 * (j 1).val = (j 1).val; rw [hi.2]; omega

theorem index6 : ∀ t : Fin cfg0.N, win0_6.index t 0 = 0 := (by decide +kernel : ∀ t : Fin grid0.N, _)

/-- Window 6's block is the whole of its array. -/
theorem block6 (t : Fin cfg0.N) : (iblk m c 6 t : Vec F S64 .f32) = m ((c : Thread nD τ).loc main_arg6) := by
  have hi := index6 t
  funext j
  unfold iblk
  rw [View.read_apply]
  show V m c main_arg6 _ = m ((c : Thread nD τ).loc main_arg6) _
  unfold V
  congr 1
  funext a
  apply Fin.ext
  match a with
  | ⟨0, _⟩ => show win0_6.index t 0 * 64 + 1 * (j 0).val = (j 0).val; rw [hi]; omega

theorem index7 : ∀ t : Fin cfg0.N, win0_7.index t 0 = 0 ∧ win0_7.index t 1 = 0 := (by decide +kernel : ∀ t : Fin grid0.N, _)

/-- Window 7's block is the whole of its array. -/
theorem block7 (t : Fin cfg0.N) : (iblk m c 7 t : Vec F S64x128 .f32) = m ((c : Thread nD τ).loc main_arg7) := by
  have hi := index7 t
  funext j
  unfold iblk
  rw [View.read_apply]
  show V m c main_arg7 _ = m ((c : Thread nD τ).loc main_arg7) _
  unfold V
  congr 1
  funext a
  apply Fin.ext
  match a with
  | ⟨0, _⟩ => show win0_7.index t 0 * 64 + 1 * (j 0).val = (j 0).val; rw [hi.1]; omega
  | ⟨1, _⟩ => show win0_7.index t 1 * 128 + 1 * (j 1).val = (j 1).val; rw [hi.2]; omega

theorem index8 : ∀ t : Fin cfg0.N, win0_8.index t 0 = 0 := (by decide +kernel : ∀ t : Fin grid0.N, _)

/-- Window 8's block is the whole of its array. -/
theorem block8 (t : Fin cfg0.N) : (iblk m c 8 t : Vec F S128 .f32) = m ((c : Thread nD τ).loc main_arg8) := by
  have hi := index8 t
  funext j
  unfold iblk
  rw [View.read_apply]
  show V m c main_arg8 _ = m ((c : Thread nD τ).loc main_arg8) _
  unfold V
  congr 1
  funext a
  apply Fin.ext
  match a with
  | ⟨0, _⟩ => show win0_8.index t 0 * 128 + 1 * (j 0).val = (j 0).val; rw [hi]; omega

theorem index9 : ∀ t : Fin cfg0.N, win0_9.index t 0 = 0 ∧ win0_9.index t 1 = 0 := (by decide +kernel : ∀ t : Fin grid0.N, _)

/-- Window 9's block is the whole of its array. -/
theorem block9 (t : Fin cfg0.N) : (iblk m c 9 t : Vec F S128x64 .f32) = m ((c : Thread nD τ).loc main_arg9) := by
  have hi := index9 t
  funext j
  unfold iblk
  rw [View.read_apply]
  show V m c main_arg9 _ = m ((c : Thread nD τ).loc main_arg9) _
  unfold V
  congr 1
  funext a
  apply Fin.ext
  match a with
  | ⟨0, _⟩ => show win0_9.index t 0 * 128 + 1 * (j 0).val = (j 0).val; rw [hi.1]; omega
  | ⟨1, _⟩ => show win0_9.index t 1 * 64 + 1 * (j 1).val = (j 1).val; rw [hi.2]; omega

theorem index10 : ∀ t : Fin cfg0.N, win0_10.index t 0 = 0 := (by decide +kernel : ∀ t : Fin grid0.N, _)

/-- Window 10's block is the whole of its array. -/
theorem block10 (t : Fin cfg0.N) : (iblk m c 10 t : Vec F S64 .f32) = m ((c : Thread nD τ).loc main_arg10) := by
  have hi := index10 t
  funext j
  unfold iblk
  rw [View.read_apply]
  show V m c main_arg10 _ = m ((c : Thread nD τ).loc main_arg10) _
  unfold V
  congr 1
  funext a
  apply Fin.ext
  match a with
  | ⟨0, _⟩ => show win0_10.index t 0 * 64 + 1 * (j 0).val = (j 0).val; rw [hi]; omega

theorem index11 : ∀ t : Fin cfg0.N, win0_11.index t 0 = 0 ∧ win0_11.index t 1 = 0 := (by decide +kernel : ∀ t : Fin grid0.N, _)

/-- Window 11's block is the whole of its array. -/
theorem block11 (t : Fin cfg0.N) : (iblk m c 11 t : Vec F S64x256 .f32) = m ((c : Thread nD τ).loc main_arg11) := by
  have hi := index11 t
  funext j
  unfold iblk
  rw [View.read_apply]
  show V m c main_arg11 _ = m ((c : Thread nD τ).loc main_arg11) _
  unfold V
  congr 1
  funext a
  apply Fin.ext
  match a with
  | ⟨0, _⟩ => show win0_11.index t 0 * 64 + 1 * (j 0).val = (j 0).val; rw [hi.1]; omega
  | ⟨1, _⟩ => show win0_11.index t 1 * 256 + 1 * (j 1).val = (j 1).val; rw [hi.2]; omega

theorem index12 : ∀ t : Fin cfg0.N, win0_12.index t 0 = 0 := (by decide +kernel : ∀ t : Fin grid0.N, _)

/-- Window 12's block is the whole of its array. -/
theorem block12 (t : Fin cfg0.N) : (iblk m c 12 t : Vec F S256 .f32) = m ((c : Thread nD τ).loc main_arg12) := by
  have hi := index12 t
  funext j
  unfold iblk
  rw [View.read_apply]
  show V m c main_arg12 _ = m ((c : Thread nD τ).loc main_arg12) _
  unfold V
  congr 1
  funext a
  apply Fin.ext
  match a with
  | ⟨0, _⟩ => show win0_12.index t 0 * 256 + 1 * (j 0).val = (j 0).val; rw [hi]; omega

theorem index13 : ∀ t : Fin cfg0.N, win0_13.index t 0 = 0 ∧ win0_13.index t 1 = 0 := (by decide +kernel : ∀ t : Fin grid0.N, _)

/-- Window 13's block is the whole of its array. -/
theorem block13 (t : Fin cfg0.N) : (iblk m c 13 t : Vec F S1024x64 .f32) = m ((c : Thread nD τ).loc main_arg13) := by
  have hi := index13 t
  funext j
  unfold iblk
  rw [View.read_apply]
  show V m c main_arg13 _ = m ((c : Thread nD τ).loc main_arg13) _
  unfold V
  congr 1
  funext a
  apply Fin.ext
  match a with
  | ⟨0, _⟩ => show win0_13.index t 0 * 1024 + 1 * (j 0).val = (j 0).val; rw [hi.1]; omega
  | ⟨1, _⟩ => show win0_13.index t 1 * 64 + 1 * (j 1).val = (j 1).val; rw [hi.2]; omega

end Cert.KernelIdeal.Value

end
-- ==== Proof.Spec.lean ====
/- The forward pass of the quantised autoencoder for ONE row of the batch, over the extended reals: what both programs
   compute row by row. -/
module

public import Idealize.ShloMosaic.Lib.Pointwise

@[expose] public section

noncomputable section

namespace Cert.Spec

open Idealize.ShloMosaic

/-- A matrix of extended reals with `n` rows and `k` columns, as the programs' arrays are. -/
abbrev Mat (n k : Nat) := (⟨2, ![n, k]⟩ : Shape).Idx → EReal

/-- A vector of `k` extended reals, as the programs' arrays are. -/
abbrev Row (k : Nat) := (⟨1, ![k]⟩ : Shape).Idx → EReal

/-- Row `r` of a matrix. -/
def rowOf {n k : Nat} (X : Mat n k) (r : Fin n) (i : Fin k) : EReal := X (ix2 r i)

/-- A dense layer with its rectifier, applied to one row: `relu (x · W + b)`. -/
def layer {n k : Nat} (x : Fin n → EReal) (W : Mat n k) (b : Row k) (j : Fin k) : EReal :=
  max ((∑ i : Fin n, x i * W (ix2 i j)) + b (ix1 j)) 0

/-- Three dense layers in a row: the encoder, and (with other widths) the decoder. -/
def mlp {n p q k : Nat} (x : Fin n → EReal) (W : Mat n p) (b : Row p) (W' : Mat p q) (b' : Row q) (W'' : Mat q k)
    (b'' : Row k) : Fin k → EReal :=
  layer (layer (layer x W b) W' b') W'' b''

/-- The squared distance from `z` to codeword `k`, in its expanded form. -/
def dist {n l : Nat} (z : Fin l → EReal) (emb : Mat n l) (k : Fin n) : EReal :=
  (∑ i : Fin l, z i * z i) - ((2 : ℝ) : EReal) * (∑ i : Fin l, z i * emb (ix2 k i)) + ∑ i : Fin l, emb (ix2 k i) * emb (ix2 k i)

/-- `k` is the first position where `d` is least. -/
def IsFirstMin {n : Nat} (d : Fin n → EReal) (k : Fin n) : Prop :=
  (∀ j, d k ≤ d j) ∧ ∀ j, d j ≤ d k → k ≤ j

/-- There is only one first position of the least value. -/
theorem IsFirstMin.unique {n : Nat} {d : Fin n → EReal} {k k' : Fin n} (h : IsFirstMin d k) (h' : IsFirstMin d k') : k = k' :=
  le_antisymm (h.2 k' (h'.1 k)) (h'.2 k (h.1 k'))

/-- A nonempty finite family has a first position of its least value. -/
theorem exists_isFirstMin {n : Nat} [NeZero n] (d : Fin n → EReal) : ∃ k, IsFirstMin d k := by
  classical
  obtain ⟨a, -, ha⟩ := Finset.exists_min_image Finset.univ d ⟨0, Finset.mem_univ 0⟩
  have hne : (Finset.univ.filter fun j => d j ≤ d a).Nonempty := ⟨a, by simp⟩
  refine ⟨(Finset.univ.filter fun j => d j ≤ d a).min' hne, ?_, ?_⟩
  · intro j
    have h := (Finset.univ.filter fun j => d j ≤ d a).min'_mem hne
    exact (Finset.mem_filter.1 h).2.trans (ha j (Finset.mem_univ j))
  · intro j hj
    have h := (Finset.univ.filter fun j => d j ≤ d a).min'_mem hne
    exact Finset.min'_le _ _ (Finset.mem_filter.2 ⟨Finset.mem_univ j, hj.trans (Finset.mem_filter.1 h).2⟩)

/-- The first position where `d` is least. -/
def firstMin {n : Nat} [NeZero n] (d : Fin n → EReal) : Fin n := (exists_isFirstMin d).choose

/-- The first position where `d` is least is one. -/
theorem firstMin_spec {n : Nat} [NeZero n] (d : Fin n → EReal) : IsFirstMin d (firstMin d) := (exists_isFirstMin d).choose_spec

/-- A position known to be the first of the least value is `firstMin`. -/
theorem IsFirstMin.eq_firstMin {n : Nat} [NeZero n] {d : Fin n → EReal} {k : Fin n} (h : IsFirstMin d k) : k = firstMin d :=
  h.unique (firstMin_spec d)

/-- What is added to `z` to quantise it: the nearest codeword (the first of them) minus `z`. -/
def shift {n l : Nat} [NeZero n] (z : Fin l → EReal) (emb : Mat n l) (i : Fin l) : EReal :=
  emb (ix2 (firstMin (dist z emb)) i) - z i

/-- The sum of the squares of a row. -/
def sumSq {n : Nat} (x : Fin n → EReal) : EReal := ∑ i, x i * x i

/-- The network's parameters: the encoder's three layers, the decoder's three, and the codebook. -/
structure Net where
  W1 : Mat 256 64
  b1 : Row 64
  W2 : Mat 64 128
  b2 : Row 128
  W3 : Mat 128 64
  b3 : Row 64
  W4 : Mat 64 128
  b4 : Row 128
  W5 : Mat 128 64
  b5 : Row 64
  W6 : Mat 64 256
  b6 : Row 256
  emb : Mat 1024 64

namespace Net

variable (N : Net) (x : Fin 256 → EReal)

/-- The encoding of a row. -/
def enc : Fin 64 → EReal := mlp x N.W1 N.b1 N.W2 N.b2 N.W3 N.b3

/-- The nearest codeword to the row's encoding, minus that encoding. -/
def gap : Fin 64 → EReal := shift (N.enc x) N.emb

/-- The row's quantised encoding, as the sum of the encoding and the gap. -/
def latent (i : Fin 64) : EReal := N.enc x i + N.gap x i

/-- The reconstruction of the row, minus the row. -/
def err (i : Fin 256) : EReal := mlp (N.latent x) N.W4 N.b4 N.W5 N.b5 N.W6 N.b6 i - x i

end Net

/-- The loss, from the total of the squared gaps and the total of the squared reconstruction errors. -/
def loss (q e : EReal) : EReal :=
  Ideal.div e ((8388608 : ℝ) : EReal) + ((5 / 4 : ℝ) : EReal) * Ideal.div q ((2097152 : ℝ) : EReal)

end Cert.Spec

end
-- ==== Proof.Numbers.lean ====
/- Facts about numbers alone: the float words the two programs hold as constants, least values as folds, and words that
   count. -/
module

public import proofs.«01_k».proof.Proof.Spec

@[expose] public section

noncomputable section

namespace Cert.Numbers

open Idealize.ShloMosaic Cert.Spec

/-- The word of `2.0` is the real two. -/
theorem two_word : Ideal.ofBits .f32 0x40000000#32 = ((2 : ℝ) : EReal) := by
  simp [Ideal.ofBits, Ideal.ieee, -EReal.coe_mul]; norm_num

/-- The word of `1.25` is the real 5/4. -/
theorem fiveQuarters_word : Ideal.ofBits .f32 0x3FA00000#32 = ((5 / 4 : ℝ) : EReal) := by
  simp [Ideal.ofBits, Ideal.ieee, -EReal.coe_mul]; norm_num

/-- The word of `0.25` is the real 1/4. -/
theorem quarter_word : Ideal.ofBits .f32 0x3E800000#32 = ((1 / 4 : ℝ) : EReal) := by
  simp [Ideal.ofBits, Ideal.ieee, -EReal.coe_mul]; norm_num

/-- The word of `2097152.0`, the number of entries of the encodings. -/
theorem encodings_word : Ideal.ofBits .f32 0x4A000000#32 = ((2097152 : ℝ) : EReal) := by
  simp [Ideal.ofBits, Ideal.ieee, -EReal.coe_mul]; norm_num

/-- The word of `8388608.0`, the number of entries of the batch. -/
theorem entries_word : Ideal.ofBits .f32 0x4B000000#32 = ((8388608 : ℝ) : EReal) := by
  simp [Ideal.ofBits, Ideal.ieee, -EReal.coe_mul]

/-- The word of `+∞` is the greatest extended real. -/
theorem top_word : Ideal.ofBits .f32 0x7F800000#32 = ⊤ := by
  simp [Ideal.ofBits, Ideal.ieee]

/-- The least value, folded from `+∞`, is the value at its first position. -/
theorem fold_min_eq {n : Nat} [NeZero n] (d : Fin n → EReal) : Finset.univ.fold min ⊤ d = d (firstMin d) := by
  apply le_antisymm
  · exact (Finset.fold_min_le _).2 (Or.inr ⟨firstMin d, Finset.mem_univ _, le_rfl⟩)
  · exact (Finset.le_fold_min _).2 ⟨le_top, fun j _ => (firstMin_spec d).1 j⟩

/-- The lesser of two signed words is the word of the lesser integer. -/
theorem toInt_minsi (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.1 h)]

/-- A count below 2³¹ read back from its word, signed. -/
theorem toInt_count {k : Nat} (h : k < 2147483648) : (BitVec.ofNat 32 k).toInt = (k : Int) := by
  rw [BitVec.toInt_eq_toNat_of_lt (by rw [BitVec.toNat_ofNat]; omega), BitVec.toNat_ofNat, Nat.mod_eq_of_lt (by omega)]

/-- The least signed word among "`j` where `d j` is the least value, `n` elsewhere" is the first position of that value. -/
theorem fold_minsi_eq {n : Nat} [NeZero n] (hn : n < 2147483648) (d : Fin n → EReal) :
    Finset.univ.fold IntOp.minsi 2147483647#32
        (fun j : Fin n => if d j = d (firstMin d) then BitVec.ofNat 32 j.val else BitVec.ofNat 32 n)
      = BitVec.ofNat 32 (firstMin d).val := by
  apply BitVec.eq_of_toInt_eq
  rw [← Finset.fold_hom (op := IntOp.minsi) (op' := min) (m := BitVec.toInt) toInt_minsi,
    toInt_count ((firstMin d).isLt.trans hn)]
  apply le_antisymm
  · refine (Finset.fold_min_le _).2 (Or.inr ⟨firstMin d, Finset.mem_univ _, ?_⟩)
    rw [if_pos rfl, toInt_count ((firstMin d).isLt.trans hn)]
  · refine (Finset.le_fold_min _).2 ⟨?_, fun j _ => ?_⟩
    · have h := (firstMin d).isLt
      have e : (2147483647#32 : BitVec 32).toInt = 2147483647 := by decide
      rw [e]; omega
    · by_cases h : d j = d (firstMin d)
      · rw [if_pos h, toInt_count (j.isLt.trans hn)]
        exact_mod_cast (firstMin_spec d).2 j h.le
      · rw [if_neg h, toInt_count hn]
        exact_mod_cast (firstMin d).isLt.le

/-- A sum weighted by "1 at `k`, 0 elsewhere" is the term at `k`. -/
theorem sum_oneHot {n : Nat} (k : Fin n) (f : Fin n → EReal) : (∑ j : Fin n, (if j = k then 1 else 0) * f j) = f k := by
  rw [Finset.sum_eq_single k]
  · rw [if_pos rfl, one_mul]
  · intro j _ h
    rw [if_neg h, zero_mul]
  · intro h; exact absurd (Finset.mem_univ k) h

/-- A quantity plus a quarter of it is five quarters of it, on all the extended reals. -/
theorem add_quarter (a : EReal) : a + ((1 / 4 : ℝ) : EReal) * a = ((5 / 4 : ℝ) : EReal) * a := by
  induction a with
  | bot => rw [EReal.coe_mul_bot_of_pos (by norm_num), EReal.coe_mul_bot_of_pos (by norm_num)]; rfl
  | top => rw [EReal.coe_mul_top_of_pos (by norm_num), EReal.coe_mul_top_of_pos (by norm_num)]; rfl
  | coe r =>
    rw [← EReal.coe_mul, ← EReal.coe_mul, ← EReal.coe_add]
    congr 1; ring

end Cert.Numbers

end
-- ==== Proof.KernelBody.lean ====
/- What one grid point of the kernel computes from its blocks, over the extended reals: each stored vector and number,
   entry by entry, in the terms of `Cert.Spec`. -/
module

public import proofs.«01_k».proof.Proof.Numbers
public import proofs.«01_k».proof.Proof.Gen.KernelIdeal.Skeleton

@[expose] public section

set_option maxRecDepth 16384

noncomputable section

namespace Cert.KernelIdeal.Value

open Cert.KernelIdeal Cert.KernelIdeal.Gen Idealize.ShloMosaic Cert.Spec Cert.Numbers

/-! ## The encoding and the distances -/

section Encoder

variable (v0 : Vec Ideal S4096x256 .f32) (v1 : Vec Ideal S256x64 .f32) (v3 : Vec Ideal S64 .f32) (v9 : Vec Ideal S64x128 .f32)
  (v11 : Vec Ideal S128 .f32) (v17 : Vec Ideal S128x64 .f32) (v19 : Vec Ideal S64 .f32) (v25 : Vec Ideal S1024x64 .f32)

/-- The encoding of a row of the block. -/
theorem pay6_apply (r : Fin 4096) (l : Fin 64) :
    k0_pay6 v0 v1 v3 v9 v11 v17 v19 (ix2 r l) = mlp (rowOf v0 r) v1 v3 v9 v11 v17 v19 l := by
  pointwise [k0_pay6]
  rfl

/-- The squared distance of a row's encoding from a codeword, but for the codeword's own squares. -/
theorem pay7_apply (r : Fin 4096) (k : Fin 1024) :
    k0_pay7 v0 v1 v3 v9 v11 v17 v19 v25 (ix2 r k)
      = (∑ i : Fin 64, k0_pay6 v0 v1 v3 v9 v11 v17 v19 (ix2 r i) * k0_pay6 v0 v1 v3 v9 v11 v17 v19 (ix2 r i))
        - ((2 : ℝ) : EReal) * ∑ i : Fin 64, k0_pay6 v0 v1 v3 v9 v11 v17 v19 (ix2 r i) * v25 (ix2 k i) := by
  rw [← two_word]
  pointwise [k0_pay7]

/-- A codeword's sum of squares. -/
theorem pay8_apply (k : Fin 1024) : k0_pay8 v25 (ix1 k) = ∑ i : Fin 64, v25 (ix2 k i) * v25 (ix2 k i) := by
  pointwise [k0_pay8]

/-- The two together: the squared distance of a row's encoding from a codeword. -/
theorem dist_apply (r : Fin 4096) (k : Fin 1024) :
    k0_pay7 v0 v1 v3 v9 v11 v17 v19 v25 (ix2 r k) + k0_pay8 v25 (ix1 k)
      = dist (mlp (rowOf v0 r) v1 v3 v9 v11 v17 v19) v25 k := by
  rw [pay7_apply, pay8_apply]
  simp only [pay6_apply]
  rfl

end Encoder

/-! ## The nearest codeword, in the kernel's steps -/

/-- The matrix of distances. -/
def distances (v33 : FVec Ideal S4096x1024 .f32) (v35 : FVec Ideal S1024 .f32) : FVec Ideal S4096x1024 .f32 :=
  addf v33 (broadcastTo S4096x1024 (shapeCast S1x1024 v35 shapeCasts_S1024_S1x1024) broadcasts_S1x1024_S4096x1024)

/-- The least distance of each row. -/
def least (d : FVec Ideal S4096x1024 .f32) : FVec Ideal S4096 .f32 :=
  multiReduction .minimumf [1] S4096 d 0x7F800000#32 reduces_S4096x1024_S4096 (.inl rfl) rfl

/-- Each position where the row's least distance is met, and 1024 elsewhere. -/
def candidates (d : FVec Ideal S4096x1024 .f32) (mn : FVec Ideal S4096 .f32) : IVec S4096x1024 32 :=
  select (cmpf .oeq d (broadcastTo S4096x1024 (shapeCast S4096x1 mn shapeCasts_S4096_S4096x1) broadcasts_S4096x1_S4096x1024))
    (iota .tc S4096x1024 32 [1] iota_S4096x1024_d1_w32) (broadcast S4096x1024 1024#32)

/-- The least candidate of each row. -/
def firsts (p : IVec S4096x1024 32) : IVec S4096 32 :=
  multiReductionI .minsi [1] S4096 p 2147483647#32 reduces_S4096x1024_S4096 rfl

/-- The matrix holding 1 at each row's position and 0 elsewhere. -/
def oneHot (w : IVec S4096 32) : FVec Ideal S4096x1024 .f32 :=
  select (cmpi .eq (iota .tc S4096x1024 32 [1] iota_S4096x1024_d1_w32)
      (broadcastTo S4096x1024 (shapeCast S4096x1 w shapeCasts_S4096_S4096x1) broadcasts_S4096x1_S4096x1024))
    (broadcast S4096x1024 (Scalar.ofBits .f32 0x3F800000#32)) (broadcast S4096x1024 (Scalar.ofBits .f32 0x00000000#32))

theorem distances_apply (v33 : FVec Ideal S4096x1024 .f32) (v35 : FVec Ideal S1024 .f32) (r : Fin 4096) (k : Fin 1024) :
    distances v33 v35 (ix2 r k) = v33 (ix2 r k) + v35 (ix1 k) := by
  pointwise [distances]

theorem least_apply (d : FVec Ideal S4096x1024 .f32) (r : Fin 4096) :
    least d (ix1 r) = Finset.univ.fold min (Ideal.ofBits .f32 0x7F800000#32) (fun k : Fin 1024 => d (ix2 r k)) := by
  pointwise [least]

theorem candidates_apply (d : FVec Ideal S4096x1024 .f32) (mn : FVec Ideal S4096 .f32) (r : Fin 4096) (k : Fin 1024) :
    candidates d mn (ix2 r k) = if d (ix2 r k) = mn (ix1 r) then BitVec.ofNat 32 k.val else 1024#32 := by
  pointwise [candidates]

theorem firsts_apply (p : IVec S4096x1024 32) (r : Fin 4096) :
    firsts p (ix1 r) = Finset.univ.fold IntOp.minsi 2147483647#32 (fun k : Fin 1024 => p (ix2 r k)) := by
  pointwise [firsts]

theorem oneHot_apply (w : IVec S4096 32) (r : Fin 4096) (k : Fin 1024) :
    oneHot w (ix2 r k) = Scalar.select (IntOp.cmpi .eq (BitVec.ofNat 32 k.val) (w (ix1 r))) 1 0 := by
  pointwise [oneHot]

/-- The word chosen for a row is that of the first position of the row's least distance. -/
theorem firsts_least (d : FVec Ideal S4096x1024 .f32) (r : Fin 4096) :
    firsts (candidates d (least d)) (ix1 r) = BitVec.ofNat 32 (firstMin (fun k : Fin 1024 => d (ix2 r k))).val := by
  rw [firsts_apply]
  simp only [candidates_apply, least_apply, top_word, fold_min_eq]
  exact fold_minsi_eq (by decide) (fun k : Fin 1024 => d (ix2 r k))

/-- Where a row's word is that of position `k`, the row holds 1 at `k` and 0 elsewhere. -/
theorem oneHot_at (w : IVec S4096 32) (r : Fin 4096) (k j : Fin 1024) (h : w (ix1 r) = BitVec.ofNat 32 k.val) :
    oneHot w (ix2 r j) = if j = k then 1 else 0 := by
  rw [oneHot_apply, h]
  by_cases e : j = k
  · subst e
    simp [IntOp.cmpi, Scalar.select]
  · have ne : BitVec.ofNat 32 j.val ≠ BitVec.ofNat 32 k.val := fun h' => e (Fin.ext (by
      have := congrArg BitVec.toNat h'
      rw [BitVec.toNat_ofNat, BitVec.toNat_ofNat] at this
      have := j.isLt; have := k.isLt; omega))
    have b : (BitVec.ofNat 32 j.val == BitVec.ofNat 32 k.val) = false := beq_eq_false_iff_ne.2 ne
    simp [IntOp.cmpi, Scalar.select, b, e]

/-- The kernel's gap vector is the product of the one-hot matrix with the codebook, minus the encoding. -/
theorem pay9_steps (v24 : FVec Ideal S4096x64 .f32) (v25 : Vec Ideal S1024x64 .f32) (v33 : FVec Ideal S4096x1024 .f32)
    (v35 : FVec Ideal S1024 .f32) :
    k0_pay9 v24 v25 v33 v35
      = subf (matmul (φ₂ := .f32) dot_S4096x1024_S1024x64_S4096x64_1_0_0_1_n_n none
          (oneHot (firsts (candidates (distances v33 v35) (least (distances v33 v35))))) v25
          (constant S4096x64 .f32 0x00000000#32)) v24 := rfl

theorem product_apply (h : FVec Ideal S4096x1024 .f32) (v24 : FVec Ideal S4096x64 .f32) (v25 : Vec Ideal S1024x64 .f32)
    (r : Fin 4096) (l : Fin 64) :
    subf (matmul (φ₂ := .f32) dot_S4096x1024_S1024x64_S4096x64_1_0_0_1_n_n none h v25 (constant S4096x64 .f32 0x00000000#32)) v24
        (ix2 r l)
      = (∑ k : Fin 1024, h (ix2 r k) * v25 (ix2 k l)) - v24 (ix2 r l) := by
  pointwise

/-- The gap of a row: the codeword at the first least distance, minus the encoding. -/
theorem pay9_apply (v24 : FVec Ideal S4096x64 .f32) (v25 : Vec Ideal S1024x64 .f32) (v33 : FVec Ideal S4096x1024 .f32)
    (v35 : FVec Ideal S1024 .f32) (r : Fin 4096) (l : Fin 64) :
    k0_pay9 v24 v25 v33 v35 (ix2 r l)
      = v25 (ix2 (firstMin fun k : Fin 1024 => v33 (ix2 r k) + v35 (ix1 k)) l) - v24 (ix2 r l) := by
  rw [pay9_steps, product_apply]
  have e : ∀ j : Fin 1024, oneHot (firsts (candidates (distances v33 v35) (least (distances v33 v35)))) (ix2 r j)
      = if j = firstMin (fun k : Fin 1024 => v33 (ix2 r k) + v35 (ix1 k)) then 1 else 0 := fun j => by
    refine oneHot_at _ r _ j ((firsts_least _ r).trans ?_)
    simp only [distances_apply]
  simp only [e, sum_oneHot]

/-- The quantised encoding stored: the encoding plus the gap. -/
theorem pay10_apply (v24 : FVec Ideal S4096x64 .f32) (v25 : Vec Ideal S1024x64 .f32) (v33 : FVec Ideal S4096x1024 .f32)
    (v35 : FVec Ideal S1024 .f32) (r : Fin 4096) (l : Fin 64) :
    k0_pay10 v24 v25 v33 v35 (ix2 r l) = v24 (ix2 r l) + k0_pay9 v24 v25 v33 v35 (ix2 r l) := by
  pointwise [k0_pay10]

/-! ## The decoder and the sums -/

/-- The first two layers of the decoder, on a row. -/
theorem pay11_apply (v24 : FVec Ideal S4096x64 .f32) (v25 : Vec Ideal S1024x64 .f32) (v33 : FVec Ideal S4096x1024 .f32)
    (v35 : FVec Ideal S1024 .f32) (v57 : Vec Ideal S64x128 .f32) (v59 : Vec Ideal S128 .f32) (v65 : Vec Ideal S128x64 .f32)
    (v67 : Vec Ideal S64 .f32) (r : Fin 4096) (l : Fin 64) :
    k0_pay11 v24 v25 v33 v35 v57 v59 v65 v67 (ix2 r l)
      = layer (layer (rowOf (k0_pay10 v24 v25 v33 v35) r) v57 v59) v65 v67 l := by
  pointwise [k0_pay11]
  rfl

/-- The block's total of squared gaps. -/
theorem pay1_eq (v54 : FVec Ideal S4096x64 .f32) : k0_pay1 v54 = ∑ r : Fin 4096, sumSq (rowOf v54 r) := by
  pointwise [k0_pay1]
  rfl

/-- The block's total of squared reconstruction errors. -/
theorem pay2_eq (v0 : Vec Ideal S4096x256 .f32) (v72 : FVec Ideal S4096x64 .f32) (v73 : Vec Ideal S64x256 .f32) (v75 : Vec Ideal S256 .f32) :
    k0_pay2 v0 v72 v73 (constant S4096x256 .f32 0x00000000#32) v75
      = ∑ r : Fin 4096, sumSq fun j : Fin 256 => layer (rowOf v72 r) v73 v75 j - v0 (ix2 r j) := by
  pointwise [k0_pay2]
  rfl

/-- A total carried on: what was there, plus the block's squared gaps. -/
theorem pay3_eq (v54 : FVec Ideal S4096x64 .f32) (a : EReal) : k0_pay3 (F := Ideal) v54 a = a + k0_pay1 v54 := rfl

/-- A total carried on: what was there, plus the block's squared reconstruction errors. -/
theorem pay4_eq (v0 : Vec Ideal S4096x256 .f32) (v72 : FVec Ideal S4096x64 .f32) (v73 : Vec Ideal S64x256 .f32)
    (z : FVec Ideal S4096x256 .f32) (v75 : Vec Ideal S256 .f32) (a : EReal) :
    k0_pay4 (F := Ideal) v0 v72 v73 z v75 a = a + k0_pay2 v0 v72 v73 z v75 := rfl

/-- The loss from the two totals. -/
theorem pay5_eq (q e : EReal) : k0_pay5 (F := Ideal) q e = loss q e := by
  unfold loss
  rw [← fiveQuarters_word, ← encodings_word, ← entries_word]
  rfl

end Cert.KernelIdeal.Value

end
-- ==== Proof.KernelPoint.lean ====
/- What the kernel leaves in its buffers at one grid point, in its own payloads: the block of quantised encodings, the two
   running totals it carries between points, and at the last point the loss. -/
module

public import proofs.«01_k».proof.Proof.Gen.KernelIdeal.Value
public import Idealize.ShloMosaic.Lib.CellWrites
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

theorem zero2 : (![0, 0] : Fin 2 → ℕ) = fun _ => 0 := by funext a; fin_cases a <;> rfl

theorem zero1 : (![0] : Fin 1 → ℕ) = fun _ => 0 := by funext a; fin_cases a; rfl

section Blocks

variable (x0 : Vec F S4096x256 .f32) (x1 : Vec F S256x64 .f32) (x2 : Vec F S64 .f32) (x3 : Vec F S64x128 .f32)
  (x4 : Vec F S128 .f32) (x5 : Vec F S128x64 .f32) (x6 : Vec F S64 .f32) (x7 : Vec F S64x128 .f32) (x8 : Vec F S128 .f32)
  (x9 : Vec F S128x64 .f32) (x10 : Vec F S64 .f32) (x11 : Vec F S64x256 .f32) (x12 : Vec F S256 .f32)
  (x13 : Vec F S1024x64 .f32)

/-- The block's gaps: the nearest codewords minus the encodings. -/
def gapBlk : FVec F S4096x64 .f32 :=
  k0_pay9 (k0_pay6 x0 x1 x2 x3 x4 x5 x6) x13 (k0_pay7 x0 x1 x2 x3 x4 x5 x6 x13) (k0_pay8 x13)

/-- The block's quantised encodings. -/
def latentBlk : FVec F S4096x64 .f32 :=
  k0_pay10 (k0_pay6 x0 x1 x2 x3 x4 x5 x6) x13 (k0_pay7 x0 x1 x2 x3 x4 x5 x6 x13) (k0_pay8 x13)

/-- The first two layers of the decoder on the block. -/
def decodeBlk : FVec F S4096x64 .f32 :=
  k0_pay11 (k0_pay6 x0 x1 x2 x3 x4 x5 x6) x13 (k0_pay7 x0 x1 x2 x3 x4 x5 x6 x13) (k0_pay8 x13) x7 x8 x9 x10

/-- The block's total of squared gaps. -/
def gapSum : F .f32 := k0_pay1 (gapBlk x0 x1 x2 x3 x4 x5 x6 x13)

/-- The block's total of squared reconstruction errors. -/
def errSum : F .f32 :=
  k0_pay2 x0 (decodeBlk x0 x1 x2 x3 x4 x5 x6 x7 x8 x9 x10 x13) x11 (constant S4096x256 .f32 0x00000000#32) x12

end Blocks

/-- The two totals as the buffer of two numbers that carries them. -/
def cells (a b : F .f32) : Vec F S2 .f32 := fun y => if (y 0).val = 1 then b else a

/-- A load of the first number of the two. -/
theorem ld_first (X : Vec F S2 .f32) (x : (Rect.unit (s := S2) ![0] ![1] inb_S2_S1_0).shape.Idx) :
    View.ld X (Rect.unit (s := S2) ![0] ![1] inb_S2_S1_0) x = X (ix1 0) := by
  refine congrArg X (funext fun a => Fin.ext ?_)
  fin_cases a
  have h : (x 0).val < 1 := (x 0).isLt
  show 0 + 1 * (x 0).val = 0
  omega

/-- A load of the second number of the two. -/
theorem ld_second (X : Vec F S2 .f32) (x : (Rect.unit (s := S2) ![1] ![1] inb_S2_S1_1).shape.Idx) :
    View.ld X (Rect.unit (s := S2) ![1] ![1] inb_S2_S1_1) x = X (ix1 1) := by
  refine congrArg X (funext fun a => Fin.ext ?_)
  fin_cases a
  have h : (x 0).val < 1 := (x 0).isLt
  show 1 + 1 * (x 0).val = 1
  omega

/-- The two numbers, each stored in its cell, are what the buffer then reads. -/
theorem stores_two (v : View sig .tc .smem S2 .f32) (f : v.ty.Contents (Elt F)) (a b : F .f32) :
    v.read (Elt F) (v.writes (Elt F) f [⟨Rect.unit (s := S2) ![1] ![1] inb_S2_S1_1, fun _ => b⟩,
      ⟨Rect.unit (s := S2) ![0] ![1] inb_S2_S1_0, fun _ => a⟩]) = cells a b := by
  funext y
  refine (View.read_writes_cons_cell v f inb_S2_S1_1 b _ y).trans ?_
  unfold cells
  by_cases h : (y 0).val = 1
  · exact (if_pos h).trans (if_pos h).symm
  · have h2 : (y 0).val < 2 := (y 0).isLt
    have h0 : (y 0).val = 0 := by omega
    exact ((if_neg h).trans ((View.read_writes_cons_cell v f inb_S2_S1_0 a _ y).trans (if_pos h0))).trans (if_neg h).symm

/-- One number stored in a buffer of one is what the buffer then reads. -/
theorem stores_one (v : View sig .tc .smem S1 .f32) (f : v.ty.Contents (Elt F)) (a : F .f32) :
    v.read (Elt F) (v.writes (Elt F) f [⟨Rect.unit (s := S1) ![0] ![1] inb_S1_S1_0, fun _ => a⟩]) = fun _ => a := by
  funext y
  have h1 : (y 0).val < 1 := (y 0).isLt
  have h0 : (y 0).val = 0 := by omega
  exact (View.read_writes_cons_cell v f inb_S1_S1_0 a _ y).trans (if_pos h0)

section Points

variable (c : Dev nD) (i : grid0.Coords) (arg1 : Memref sig .tc .vmem S4096x256 .f32) (harg1 : arg1.IsWhole)
  (arg2 : Memref sig .tc .vmem S256x64 .f32) (harg2 : arg2.IsWhole) (arg3 : Memref sig .tc .vmem S64 .f32)
  (harg3 : arg3.IsWhole) (arg4 : Memref sig .tc .vmem S64x128 .f32) (harg4 : arg4.IsWhole)
  (arg5 : Memref sig .tc .vmem S128 .f32) (harg5 : arg5.IsWhole) (arg6 : Memref sig .tc .vmem S128x64 .f32)
  (harg6 : arg6.IsWhole) (arg7 : Memref sig .tc .vmem S64 .f32) (harg7 : arg7.IsWhole)
  (arg8 : Memref sig .tc .vmem S64x128 .f32) (harg8 : arg8.IsWhole) (arg9 : Memref sig .tc .vmem S128 .f32)
  (harg9 : arg9.IsWhole) (arg10 : Memref sig .tc .vmem S128x64 .f32) (harg10 : arg10.IsWhole)
  (arg11 : Memref sig .tc .vmem S64 .f32) (harg11 : arg11.IsWhole) (arg12 : Memref sig .tc .vmem S64x256 .f32)
  (harg12 : arg12.IsWhole) (arg13 : Memref sig .tc .vmem S256 .f32) (harg13 : arg13.IsWhole)
  (arg14 : Memref sig .tc .vmem S1024x64 .f32) (harg14 : arg14.IsWhole) (arg15 : Memref sig .tc .vmem S4096x64 .f32)
  (harg15 : arg15.IsWhole) (arg16 : Memref sig .tc .smem S1 .f32) (harg16 : arg16.IsWhole)
  (arg17 : Memref sig .tc .smem S2 .f32) (harg17 : arg17.IsWhole)
  (x0 : Vec F S4096x256 .f32) (x1 : Vec F S256x64 .f32) (x2 : Vec F S64 .f32) (x3 : Vec F S64x128 .f32)
  (x4 : Vec F S128 .f32) (x5 : Vec F S128x64 .f32) (x6 : Vec F S64 .f32) (x7 : Vec F S64x128 .f32) (x8 : Vec F S128 .f32)
  (x9 : Vec F S128x64 .f32) (x10 : Vec F S64 .f32) (x11 : Vec F S64x256 .f32) (x12 : Vec F S256 .f32)
  (x13 : Vec F S1024x64 .f32)
  (xs0 : Vec F S2 .f32)

/-- Case A: the block of quantised encodings. -/
theorem latent_A (hc0 : cond0_0 i) (hc1 : ¬cond0_1 i) (hc2 : ¬cond0_2 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 = latentBlk x0 x1 x2 x3 x4 x5 x6 x13 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13)]
  unfold kernelRun0_A
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rfl

/-- Case B: the block of quantised encodings. -/
theorem latent_B (hc0 : ¬cond0_0 i) (hc1 : cond0_1 i) (hc2 : ¬cond0_2 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 = latentBlk x0 x1 x2 x3 x4 x5 x6 x13 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0)]
  unfold kernelRun0_B
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rfl

/-- Case C: the block of quantised encodings. -/
theorem latent_C (hc0 : ¬cond0_0 i) (hc1 : cond0_1 i) (hc2 : cond0_2 i) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 = latentBlk x0 x1 x2 x3 x4 x5 x6 x13 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0)]
  unfold kernelRun0_C
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rfl

/-- Case A: the two totals carried on. -/
theorem totals_A (hc0 : cond0_0 i) (hc1 : ¬cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 = cells (gapSum x0 x1 x2 x3 x4 x5 x6 x13) (errSum x0 x1 x2 x3 x4 x5 x6 x7 x8 x9 x10 x11 x12 x13) := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  exact stores_two (F := F) _ _ _ _

/-- Case B: the two totals carried on. -/
theorem totals_B (hc0 : ¬cond0_0 i) (hc1 : cond0_1 i) (hc2 : ¬cond0_2 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 = cells
      (k0_pay3 (gapBlk x0 x1 x2 x3 x4 x5 x6 x13) (xs0 (ix1 0)))
      (k0_pay4 x0 (decodeBlk x0 x1 x2 x3 x4 x5 x6 x7 x8 x9 x10 x13) x11 (constant S4096x256 .f32 0x00000000#32) x12 (xs0 (ix1 1))) := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rw [harg17.read_unread]
  exact (stores_two (F := F) _ _ _ _).trans (congrArg₂ (cells (F := F)) (congrArg (k0_pay3 _) (ld_first xs0 _))
    (congrArg (k0_pay4 _ _ _ _ _) (ld_second xs0 _)))

/-- Case C: the two totals carried on. -/
theorem totals_C (hc0 : ¬cond0_0 i) (hc1 : cond0_1 i) (hc2 : cond0_2 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 = cells
      (k0_pay3 (gapBlk x0 x1 x2 x3 x4 x5 x6 x13) (xs0 (ix1 0)))
      (k0_pay4 x0 (decodeBlk x0 x1 x2 x3 x4 x5 x6 x7 x8 x9 x10 x13) x11 (constant S4096x256 .f32 0x00000000#32) x12 (xs0 (ix1 1))) := by
  unfold sout0_C_0
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rw [harg17.read_unread]
  exact (stores_two (F := F) _ _ _ _).trans (congrArg₂ (cells (F := F)) (congrArg (k0_pay3 _) (ld_first xs0 _))
    (congrArg (k0_pay4 _ _ _ _ _) (ld_second xs0 _)))

/-- Case C: the loss. -/
theorem loss_C (hc0 : ¬cond0_0 i) (hc1 : cond0_1 i) (hc2 : cond0_2 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0 = fun _ => k0_pay5
      (k0_pay3 (gapBlk x0 x1 x2 x3 x4 x5 x6 x13) (xs0 (ix1 0)))
      (k0_pay4 x0 (decodeBlk x0 x1 x2 x3 x4 x5 x6 x7 x8 x9 x10 x13) x11 (constant S4096x256 .f32 0x00000000#32) x12 (xs0 (ix1 1))) := by
  unfold out0_C_15
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x256) zero2, View.ld_unit_zero (S := S256x64) zero2, View.ld_unit_zero (S := S64x128) zero2, View.ld_unit_zero (S := S128x64) zero2, View.ld_unit_zero (S := S64x256) zero2, View.ld_unit_zero (S := S1024x64) zero2, View.ld_unit_zero (S := S64) zero1, View.ld_unit_zero (S := S128) zero1, View.ld_unit_zero (S := S256) zero1]
  rw [harg17.read_unread]
  exact (stores_one (F := F) _ _ _).trans (congrArg (fun (v : F .f32) => fun (_ : S1.Idx) => v)
    (congrArg₂ (k0_pay5 (F := F)) (congrArg (k0_pay3 _) (ld_first xs0 _)) (congrArg (k0_pay4 _ _ _ _ _) (ld_second xs0 _))))

end Points

end Cert.KernelIdeal.Value

end
-- ==== Proof.KernelRows.lean ====
/- One grid point of the kernel over the extended reals: its block of quantised encodings row by row, and its two totals,
   in the terms of `Cert.Spec`. -/
module

public import proofs.«01_k».proof.Proof.KernelBody
public import proofs.«01_k».proof.Proof.KernelPoint

@[expose] public section

set_option maxRecDepth 16384

noncomputable section

namespace Cert.KernelIdeal.Value

open Cert.KernelIdeal Cert.KernelIdeal.Gen Idealize.ShloMosaic Cert.Spec Cert.Numbers

variable (x0 : Vec Ideal S4096x256 .f32) (x1 : Vec Ideal S256x64 .f32) (x2 : Vec Ideal S64 .f32) (x3 : Vec Ideal S64x128 .f32)
  (x4 : Vec Ideal S128 .f32) (x5 : Vec Ideal S128x64 .f32) (x6 : Vec Ideal S64 .f32) (x7 : Vec Ideal S64x128 .f32)
  (x8 : Vec Ideal S128 .f32) (x9 : Vec Ideal S128x64 .f32) (x10 : Vec Ideal S64 .f32)
  (x11 : Vec Ideal S64x256 .f32) (x12 : Vec Ideal S256 .f32) (x13 : Vec Ideal S1024x64 .f32)

/-- The parameters a point finds in its blocks, as a network. -/
abbrev netOf : Net := ⟨x1, x2, x3, x4, x5, x6, x7, x8, x9, x10, x11, x12, x13⟩

/-- The encoding of a row of the block. -/
theorem encBlk_row (r : Fin 4096) : rowOf (k0_pay6 x0 x1 x2 x3 x4 x5 x6) r = (netOf x1 x2 x3 x4 x5 x6 x7 x8 x9 x10 x11 x12 x13).enc (rowOf x0 r) :=
  funext fun l => pay6_apply x0 x1 x2 x3 x4 x5 x6 r l

/-- The gap of a row of the block. -/
theorem gapBlk_row (r : Fin 4096) : rowOf (gapBlk x0 x1 x2 x3 x4 x5 x6 x13) r = (netOf x1 x2 x3 x4 x5 x6 x7 x8 x9 x10 x11 x12 x13).gap (rowOf x0 r) := by
  funext l
  refine (pay9_apply _ _ _ _ r l).trans ?_
  simp only [dist_apply]
  rw [pay6_apply]
  rfl

/-- The quantised encoding of a row of the block. -/
theorem latentBlk_row (r : Fin 4096) :
    rowOf (latentBlk x0 x1 x2 x3 x4 x5 x6 x13) r = (netOf x1 x2 x3 x4 x5 x6 x7 x8 x9 x10 x11 x12 x13).latent (rowOf x0 r) := by
  funext l
  refine (pay10_apply _ _ _ _ r l).trans ?_
  exact congrArg₂ (· + ·) (pay6_apply x0 x1 x2 x3 x4 x5 x6 r l)
    (congrFun (gapBlk_row x0 x1 x2 x3 x4 x5 x6 x7 x8 x9 x10 x11 x12 x13 r) l)

/-- The first two layers of the decoder on a row of the block. -/
theorem decodeBlk_row (r : Fin 4096) :
    rowOf (decodeBlk x0 x1 x2 x3 x4 x5 x6 x7 x8 x9 x10 x13) r
      = layer (layer ((netOf x1 x2 x3 x4 x5 x6 x7 x8 x9 x10 x11 x12 x13).latent (rowOf x0 r)) x7 x8) x9 x10 := by
  funext l
  refine (pay11_apply _ _ _ _ _ _ _ _ r l).trans ?_
  exact congrArg (fun z => layer (layer z x7 x8) x9 x10 l) (latentBlk_row x0 x1 x2 x3 x4 x5 x6 x7 x8 x9 x10 x11 x12 x13 r)

/-- The point's total of squared gaps. -/
theorem gapSum_eq :
    gapSum x0 x1 x2 x3 x4 x5 x6 x13 = ∑ r : Fin 4096, sumSq ((netOf x1 x2 x3 x4 x5 x6 x7 x8 x9 x10 x11 x12 x13).gap (rowOf x0 r)) := by
  refine (pay1_eq _).trans ?_
  simp only [gapBlk_row x0 x1 x2 x3 x4 x5 x6 x7 x8 x9 x10 x11 x12 x13]

/-- The point's total of squared reconstruction errors. -/
theorem errSum_eq :
    errSum x0 x1 x2 x3 x4 x5 x6 x7 x8 x9 x10 x11 x12 x13 = ∑ r : Fin 4096, sumSq ((netOf x1 x2 x3 x4 x5 x6 x7 x8 x9 x10 x11 x12 x13).err (rowOf x0 r)) := by
  refine (pay2_eq _ _ _ _).trans ?_
  simp only [decodeBlk_row x0 x1 x2 x3 x4 x5 x6 x7 x8 x9 x10 x11 x12 x13]
  rfl

end Cert.KernelIdeal.Value

end
-- ==== Proof.KernelValue.lean ====
/- The kernel's two results over the extended reals: the quantised encoding of every row, and the loss of the whole batch. -/
module

public import proofs.«01_k».proof.Proof.KernelInputs
public import proofs.«01_k».proof.Proof.KernelRows

@[expose] public section

set_option maxRecDepth 16384

noncomputable section

namespace Cert.KernelIdeal.Value

open Cert.KernelIdeal Cert.KernelIdeal.Gen Idealize.ShloMosaic Idealize.ShloMosaic.TcCoe Idealize.SL.Sem Cert.Spec Cert.Numbers
open Idealize.ShloMosaic.Pipeline (Dat)

variable (m : (ℓ : Loc nD τ sig) → Buf (Elt Ideal) ℓ) (c : Dev nD)

/-- The batch as launched. -/
abbrev batch : Mat 32768 256 := m ((c : Thread nD τ).loc main_arg0)

/-- The network's parameters as launched. -/
abbrev net : Net := ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩

/-- Networks with equal parameters are equal. -/
theorem net_congr {x1 y1 : Mat 256 64} {x2 y2 : Row 64} {x3 y3 : Mat 64 128} {x4 y4 : Row 128} {x5 y5 : Mat 128 64} {x6 y6 : Row 64} {x7 y7 : Mat 64 128} {x8 y8 : Row 128} {x9 y9 : Mat 128 64} {x10 y10 : Row 64} {x11 y11 : Mat 64 256} {x12 y12 : Row 256} {x13 y13 : Mat 1024 64}
    (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) :
    (⟨x1, x2, x3, x4, x5, x6, x7, x8, x9, x10, x11, x12, x13⟩ : Net) = ⟨y1, y2, y3, y4, y5, y6, y7, y8, y9, y10, y11, y12, y13⟩ := by
  subst e1 e2 e3 e4 e5 e6 e7 e8 e9 e10 e11 e12 e13
  rfl

/-- The parameters a point reads are the launched ones. -/
theorem netOf_blocks (t : Fin cfg0.N) : netOf (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = net m c :=
  by
  refine net_congr ?_ ?_ ?_ ?_ ?_ ?_ ?_ ?_ ?_ ?_ ?_ ?_ ?_
  · exact block1 (F := Ideal) m c t
  · exact block2 (F := Ideal) m c t
  · exact block3 (F := Ideal) m c t
  · exact block4 (F := Ideal) m c t
  · exact block5 (F := Ideal) m c t
  · exact block6 (F := Ideal) m c t
  · exact block7 (F := Ideal) m c t
  · exact block8 (F := Ideal) m c t
  · exact block9 (F := Ideal) m c t
  · exact block10 (F := Ideal) m c t
  · exact block11 (F := Ideal) m c t
  · exact block12 (F := Ideal) m c t
  · exact block13 (F := Ideal) m c t

/-- A row of the batch's block at a point is the batch's row. -/
theorem row_block (t : Fin cfg0.N) (r : Fin 4096) (h : 4096 * t.val + r.val < 32768) :
    rowOf (iblk m c 0 t : Vec Ideal S4096x256 .f32) r = rowOf (batch m c) ⟨4096 * t.val + r.val, h⟩ :=
  funext fun i => block0 m c t r i h

/-! ## The quantised encodings -/

/-- A point leaves in its first output the quantised encodings of its rows. -/
theorem outs_latent (t : Fin cfg0.N) : (outsAt0 m c t.val t.isLt).1 = latentBlk (iblk m c 0 t) (iblk m c 1 t) (iblk m c 2 t) (iblk m c 3 t) (iblk m c 4 t) (iblk m c 5 t) (iblk m c 6 t) (iblk m c 13 t) := by
  have hN := points t
  by_cases h0 : t.val % 8 = 0
  · rw [outsAt0_A m c t h0 (by omega) (by omega)]
    dsimp only
    exact latent_A (F := Ideal) ..
  · by_cases h2 : t.val % 8 = 7
    · rw [outsAt0_C m c t h0 (by omega) h2]
      dsimp only
      exact latent_C (F := Ideal) ..
    · rw [outsAt0_B m c t h0 (by omega) h2]
      dsimp only
      exact latent_B (F := Ideal) ..

/-- The quantised encodings of the whole batch. -/
def latents (N : Net) (X : Mat 32768 256) : Vec Ideal S32768x64 .f32 := fun i => N.latent (rowOf X (i 0)) (i 1)

theorem index14 : ∀ t : Fin cfg0.N, win0_14.index t 0 = t.val ∧ win0_14.index t 1 = 0 := (by decide +kernel : ∀ t : Fin grid0.N, _)

/-- An entry of a point's first output. -/
theorem latent_at (t : Fin cfg0.N) (r : Fin 4096) (l : Fin 64) (h : 4096 * t.val + r.val < 32768) :
    latentBlk (iblk m c 0 t) (iblk m c 1 t) (iblk m c 2 t) (iblk m c 3 t) (iblk m c 4 t) (iblk m c 5 t) (iblk m c 6 t) (iblk m c 13 t) (ix2 r l) = (net m c).latent (rowOf (batch m c) ⟨4096 * t.val + r.val, h⟩) l := by
  refine (congrFun (latentBlk_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r) l).trans ?_
  rw [netOf_blocks, row_block m c t r h]

/-- A point writes back its rows' block of the quantised encodings. -/
theorem flushed_latent (t : Fin cfg0.N) :
    (dats m 0 c).flushed 14 t = ((cfg0.win 14).blk t).view.read (Elt Ideal) (latents (net m c) (batch m c)) := by
  have hN := points t
  have hi := index14 t
  rw [flushed14, outs_latent]
  funext j
  have hj0 : (j 0).val < 4096 := (j 0).isLt
  have hj1 : (j 1).val < 64 := (j 1).isLt
  have hrow : 4096 * t.val + (j 0).val < 32768 := by omega
  rw [View.read_apply]
  have e : ((cfg0.win 14).blk t).view.emb j = ix2 ⟨4096 * t.val + (j 0).val, hrow⟩ ⟨(j 1).val, hj1⟩ := by
    funext a
    apply Fin.ext
    match a with
    | ⟨0, _⟩ => show win0_14.index t 0 * 4096 + 1 * (j 0).val = 4096 * t.val + (j 0).val; rw [hi.1]; omega
    | ⟨1, _⟩ => show win0_14.index t 1 * 64 + 1 * (j 1).val = (j 1).val; rw [hi.2]; omega
  rw [e]
  refine Eq.trans ?_ (latent_at m c t ⟨(j 0).val, hj0⟩ ⟨(j 1).val, hj1⟩ hrow)
  generalize latentBlk (iblk m c 0 t) (iblk m c 1 t) (iblk m c 2 t) (iblk m c 3 t) (iblk m c 4 t) (iblk m c 5 t) (iblk m c 6 t) (iblk m c 13 t) = L
  show L _ = L _
  congr 1
  funext a
  apply Fin.ext
  match a with
  | ⟨0, _⟩ => rfl
  | ⟨1, _⟩ => rfl

/-- The kernel's first result: the quantised encoding of every row. -/
theorem result_latent : (dats m 0 c).arrAt 14 cfg0.N = latents (net m c) (batch m c) :=
  (dats m 0 c).arrAt_eq_of_cover 14 _ (fun t _ => flushed_latent m c t) fun i => by
    have h0 : (i 0 : Nat) < 32768 := (i 0).isLt
    have h1 : (i 1 : Nat) < 64 := (i 1).isLt
    have ht : (i 0 : Nat) / 4096 < cfg0.N := by rw [show cfg0.N = 8 from N_0]; omega
    refine ⟨⟨(i 0 : Nat) / 4096, ht⟩, flush0_14 _, ?_⟩
    have hi := index14 ⟨(i 0 : Nat) / 4096, ht⟩
    show i ∈ ((View.whole main_v0_0).slice (win0_14.rect ⟨(i 0 : Nat) / 4096, ht⟩)).set
    rw [View.set_slice_whole, Rect.mem_set_unit]
    intro a
    match a with
    | ⟨0, _⟩ => show win0_14.index _ 0 * 4096 ≤ (i 0 : Nat) ∧ (i 0 : Nat) < win0_14.index _ 0 * 4096 + 4096; rw [hi.1]; dsimp only; omega
    | ⟨1, _⟩ => show win0_14.index _ 1 * 64 ≤ (i 1 : Nat) ∧ (i 1 : Nat) < win0_14.index _ 1 * 64 + 64; rw [hi.2]; omega

/-! ## The two running totals and the loss -/

/-- Row `k`'s squared gap, and nothing past the batch. -/
def gapAt (N : Net) (X : Mat 32768 256) (k : Nat) : EReal := if h : k < 32768 then sumSq (N.gap (rowOf X ⟨k, h⟩)) else 0

/-- Row `k`'s squared reconstruction error, and nothing past the batch. -/
def errAt (N : Net) (X : Mat 32768 256) (k : Nat) : EReal := if h : k < 32768 then sumSq (N.err (rowOf X ⟨k, h⟩)) else 0

/-- A point's own total of squared gaps is that of its run of rows. -/
theorem gap_point (t : Fin cfg0.N) : gapSum (iblk m c 0 t) (iblk m c 1 t) (iblk m c 2 t) (iblk m c 3 t) (iblk m c 4 t) (iblk m c 5 t) (iblk m c 6 t) (iblk m c 13 t) = ∑ k ∈ Finset.range 4096, gapAt (net m c) (batch m c) (4096 * t.val + k) := by
  have hN := points t
  rw [gapSum_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), netOf_blocks, Finset.sum_range]
  refine Finset.sum_congr rfl fun r _ => ?_
  have hr : 4096 * t.val + r.val < 32768 := by omega
  rw [row_block m c t r hr, gapAt, dif_pos hr]

/-- A point's own total of squared reconstruction errors is that of its run of rows. -/
theorem err_point (t : Fin cfg0.N) : errSum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = ∑ k ∈ Finset.range 4096, errAt (net m c) (batch m c) (4096 * t.val + k) := by
  have hN := points t
  rw [errSum_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), netOf_blocks, Finset.sum_range]
  refine Finset.sum_congr rfl fun r _ => ?_
  have hr : 4096 * t.val + r.val < 32768 := by omega
  rw [row_block m c t r hr, errAt, dif_pos hr]

/-- The sum over the first `4096 (n + 1)` rows is that over the first `4096 n` plus that over the next run of rows. -/
theorem range_next (f : Nat → EReal) (n : Nat) :
    ∑ k ∈ Finset.range (4096 * (n + 1)), f k = ∑ k ∈ Finset.range (4096 * n), f k + ∑ k ∈ Finset.range 4096, f (4096 * n + k) := by
  rw [Nat.mul_succ, Finset.sum_range_add]

/-- A later point's first total: what was carried, plus its own. -/
theorem gap_carry (t : Fin cfg0.N) (a : EReal) : k0_pay3 (F := Ideal) (gapBlk (iblk m c 0 t) (iblk m c 1 t) (iblk m c 2 t) (iblk m c 3 t) (iblk m c 4 t) (iblk m c 5 t) (iblk m c 6 t) (iblk m c 13 t)) a = a + gapSum (iblk m c 0 t) (iblk m c 1 t) (iblk m c 2 t) (iblk m c 3 t) (iblk m c 4 t) (iblk m c 5 t) (iblk m c 6 t) (iblk m c 13 t) := pay3_eq _ _

/-- A later point's second total: what was carried, plus its own. -/
theorem err_carry (t : Fin cfg0.N) (a : EReal) :
    k0_pay4 (F := Ideal) (iblk m c 0 t) (decodeBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 13 t)) (iblk m c 11 t) (constant S4096x256 .f32 0x00000000#32) (iblk m c 12 t) a
      = a + errSum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := pay4_eq _ _ _ _ _ _

/-- The totals after the first `n` rows. -/
def totals (N : Net) (X : Mat 32768 256) (n : Nat) : Vec Ideal S2 .f32 :=
  cells (∑ k ∈ Finset.range n, gapAt N X k) (∑ k ∈ Finset.range n, errAt N X k)

/-- A later point's two totals, over those the point before left. -/
theorem totals_step (t : Fin cfg0.N) (n : Nat) (hn : t.val = n + 1) (xs : Vec Ideal S2 .f32) (hxs : xs = totals (net m c) (batch m c) (4096 * (n + 1))) :
    (k0_pay3 (F := Ideal) (gapBlk (iblk m c 0 t) (iblk m c 1 t) (iblk m c 2 t) (iblk m c 3 t) (iblk m c 4 t) (iblk m c 5 t) (iblk m c 6 t) (iblk m c 13 t)) (xs (ix1 0)) = ∑ k ∈ Finset.range (4096 * (t.val + 1)), gapAt (net m c) (batch m c) k)
    ∧ k0_pay4 (F := Ideal) (iblk m c 0 t) (decodeBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 13 t)) (iblk m c 11 t) (constant S4096x256 .f32 0x00000000#32) (iblk m c 12 t) (xs (ix1 1))
      = ∑ k ∈ Finset.range (4096 * (t.val + 1)), errAt (net m c) (batch m c) k := by
  rw [gap_carry, err_carry, gap_point, err_point, range_next, range_next, hxs, hn]
  exact ⟨rfl, rfl⟩

/-- The first point leaves its own two totals in the scratch. -/
theorem scratch_first (t : Fin cfg0.N) (h0 : t.val % 8 = 0) (h1 : ¬1 ≤ t.val) (h2 : ¬t.val % 8 = 7) :
    (outsAt0 m c t.val t.isLt).2.2 = cells (gapSum (iblk m c 0 t) (iblk m c 1 t) (iblk m c 2 t) (iblk m c 3 t) (iblk m c 4 t) (iblk m c 5 t) (iblk m c 6 t) (iblk m c 13 t)) (errSum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  rw [outsAt0_A m c t h0 h1 h2]
  dsimp only
  exact totals_A (F := Ideal) ..

/-- A later point leaves in the scratch its two totals added to those the point before left. -/
theorem scratch_next (t : Fin cfg0.N) (h0 : ¬t.val % 8 = 0) (h1 : 1 ≤ t.val) :
    (outsAt0 m c t.val t.isLt).2.2 = cells
      (k0_pay3 (F := Ideal) (gapBlk (iblk m c 0 t) (iblk m c 1 t) (iblk m c 2 t) (iblk m c 3 t) (iblk m c 4 t) (iblk m c 5 t) (iblk m c 6 t) (iblk m c 13 t)) ((outsAt0 m c (t.val - 1) (Nat.lt_of_le_of_lt (Nat.sub_le _ _) t.isLt)).2.2 (ix1 0)))
      (k0_pay4 (F := Ideal) (iblk m c 0 t) (decodeBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 13 t)) (iblk m c 11 t) (constant S4096x256 .f32 0x00000000#32) (iblk m c 12 t) ((outsAt0 m c (t.val - 1) (Nat.lt_of_le_of_lt (Nat.sub_le _ _) t.isLt)).2.2 (ix1 1))) := by
  by_cases h2 : t.val % 8 = 7
  · rw [outsAt0_C m c t h0 h1 h2]
    dsimp only
    exact totals_C (F := Ideal) ..
  · rw [outsAt0_B m c t h0 h1 h2]
    dsimp only
    exact totals_B (F := Ideal) ..

/-- The last point leaves in its second output the loss of the two totals it ends with. -/
theorem outs_last (t : Fin cfg0.N) (h0 : ¬t.val % 8 = 0) (h1 : 1 ≤ t.val) (h2 : t.val % 8 = 7) :
    (outsAt0 m c t.val t.isLt).2.1 = fun _ => k0_pay5 (F := Ideal)
      (k0_pay3 (F := Ideal) (gapBlk (iblk m c 0 t) (iblk m c 1 t) (iblk m c 2 t) (iblk m c 3 t) (iblk m c 4 t) (iblk m c 5 t) (iblk m c 6 t) (iblk m c 13 t)) ((outsAt0 m c (t.val - 1) (Nat.lt_of_le_of_lt (Nat.sub_le _ _) t.isLt)).2.2 (ix1 0)))
      (k0_pay4 (F := Ideal) (iblk m c 0 t) (decodeBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 13 t)) (iblk m c 11 t) (constant S4096x256 .f32 0x00000000#32) (iblk m c 12 t) ((outsAt0 m c (t.val - 1) (Nat.lt_of_le_of_lt (Nat.sub_le _ _) t.isLt)).2.2 (ix1 1))) := by
  rw [outsAt0_C m c t h0 h1 h2]
  dsimp only
  exact loss_C (F := Ideal) ..

/-- After point `n` the scratch holds the totals over the rows up to that point's last. -/
theorem carried : ∀ (n : Nat) (h : n < cfg0.N), (outsAt0 m c n h).2.2 = totals (net m c) (batch m c) (4096 * (n + 1))
  | 0, h => by
    refine (scratch_first m c ⟨0, h⟩ rfl (Nat.not_succ_le_zero 0) (show ¬0 % 8 = 7 by decide)).trans ?_
    rw [gap_point, err_point]
    unfold totals
    rw [range_next, range_next]
    simp only [Nat.mul_zero, Finset.range_zero, Finset.sum_empty, zero_add]
  | n + 1, h => by
    have hN := points ⟨n + 1, h⟩
    have ih := carried n (Nat.lt_of_succ_lt h)
    have h0 : ¬(⟨n + 1, h⟩ : Fin cfg0.N).val % 8 = 0 := by dsimp only at hN ⊢; omega
    have h1 : 1 ≤ (⟨n + 1, h⟩ : Fin cfg0.N).val := Nat.succ_le_succ (Nat.zero_le n)
    obtain ⟨s1, s2⟩ := totals_step m c ⟨n + 1, h⟩ n rfl _ ih
    exact (scratch_next m c ⟨n + 1, h⟩ h0 h1).trans (congrArg₂ cells s1 s2)

/-- The loss of a batch: that of the two totals over all its rows. -/
def batchLoss (N : Net) (X : Mat 32768 256) : EReal :=
  loss (∑ r, sumSq (N.gap (rowOf X r))) (∑ r, sumSq (N.err (rowOf X r)))

/-- The last point leaves the loss in its second output. -/
theorem outs_loss (t : Fin cfg0.N) (h2 : t.val % 8 = 7) :
    (outsAt0 m c t.val t.isLt).2.1 = fun _ => batchLoss (net m c) (batch m c) := by
  have hN := points t
  have hp := carried m c (t.val - 1) (Nat.lt_of_le_of_lt (Nat.sub_le _ _) t.isLt)
  obtain ⟨s1, s2⟩ := totals_step m c t (t.val - 1) (by omega) _ hp
  refine (outs_last m c t (by omega) (by omega) h2).trans (funext fun _ => ?_)
  refine (congrArg₂ (k0_pay5 (F := Ideal)) s1 s2).trans ((pay5_eq _ _).trans ?_)
  rw [show 4096 * (t.val + 1) = 32768 by omega, Finset.sum_range, Finset.sum_range]
  unfold batchLoss
  refine congrArg₂ loss ?_ ?_
  · exact Finset.sum_congr rfl fun r _ => dif_pos r.isLt
  · exact Finset.sum_congr rfl fun r _ => dif_pos r.isLt

theorem index15 : ∀ t : Fin cfg0.N, win0_15.index t 0 = 0 := (by decide +kernel : ∀ t : Fin grid0.N, _)

/-- The kernel's second result: the loss of the batch. -/
theorem result_loss : (dats m 0 c).arrAt 15 cfg0.N = (fun _ => batchLoss (net m c) (batch m c) : Vec Ideal S1 .f32) :=
  (dats m 0 c).arrAt_eq_of_cover 15 _ (fun t hf => by
    rw [flushed15, outs_loss m c t ((flush0_15 t).mp hf)]
    rfl) fun i => by
    have h0 : (i 0 : Nat) < 1 := (i 0).isLt
    have ht : 7 < cfg0.N := by rw [show cfg0.N = 8 from N_0]; omega
    refine ⟨⟨7, ht⟩, (flush0_15 _).mpr rfl, ?_⟩
    have hi := index15 ⟨7, ht⟩
    show i ∈ ((View.whole main_v0_1).slice (win0_15.rect ⟨7, ht⟩)).set
    rw [View.set_slice_whole, Rect.mem_set_unit]
    intro a
    match a with
    | ⟨0, _⟩ => show win0_15.index _ 0 * 1 ≤ (i 0 : Nat) ∧ (i 0 : Nat) < win0_15.index _ 0 * 1 + 1; rw [hi]; omega

end Cert.KernelIdeal.Value

end
-- ==== Proof.ReferenceOps.lean ====
/- The reference as a list of its operations, in eight stages, and its run through that list. -/
module

public import proofs.«01_k».proof.Proof.Gen.ReferenceIdeal
public import Idealize.ShloMosaic.Lib.StableHlo.Run
public import Idealize.ShloMosaic.Lib.Pipeline.Frame

@[expose] public section

set_option maxRecDepth 16384
set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The encoder. -/
abbrev encodeOps : List (HloOp τ sig (Elt F)) :=
  [ binary main_arg0 main_arg1 main_v0 ((fun l r => Host.dotGeneral dot_S32768x256_S256x64_S32768x64_1_0_0_1_n_n none l r) : (⟨S32768x256, .f32⟩ : BufTy).Contents (Elt F) → (⟨S256x64, .f32⟩ : BufTy).Contents (Elt F) → (⟨S32768x64, .f32⟩ : BufTy).Contents (Elt F)),
    unary main_arg2 main_v1 (broadcastInDim S1x64 ![1] bcast_S64_S1x64_1 : (⟨S64, .f32⟩ : BufTy).Contents (Elt F) → (⟨S1x64, .f32⟩ : BufTy).Contents (Elt F)),
    unary main_v1 main_v2 (broadcastInDim S32768x64 ![0, 1] bcast_S1x64_S32768x64_0_1 : (⟨S1x64, .f32⟩ : BufTy).Contents (Elt F) → (⟨S32768x64, .f32⟩ : BufTy).Contents (Elt F)),
    binary main_v0 main_v2 main_v3 (addf : (⟨S32768x64, .f32⟩ : BufTy).Contents (Elt F) → (⟨S32768x64, .f32⟩ : BufTy).Contents (Elt F) → (⟨S32768x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x64, .f32⟩) main_call0_v0) (broadcastInDim S32768x64 ![] bcast_S_S32768x64),
    TRef.binary (TRef.of (T := ⟨S32768x64, .f32⟩) main_v3) (TRef.of (T := ⟨S32768x64, .f32⟩) main_call0_v0) (TRef.of (T := ⟨S32768x64, .f32⟩) main_v4) maximumf,
    binary main_v4 main_arg3 main_v5 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S32768x128 ![0, 1] bcast_S1x128_S32768x128_0_1 : (⟨S1x128, .f32⟩ : BufTy).Contents (Elt F) → (⟨S32768x128, .f32⟩ : BufTy).Contents (Elt F)),
    binary main_v5 main_v7 main_v8 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x128, .f32⟩) main_call1_v0) (broadcastInDim S32768x128 ![] bcast_S_S32768x128),
    TRef.binary (TRef.of (T := ⟨S32768x128, .f32⟩) main_v8) (TRef.of (T := ⟨S32768x128, .f32⟩) main_call1_v0) (TRef.of (T := ⟨S32768x128, .f32⟩) main_v9) maximumf,
    binary main_v9 main_arg5 main_v10 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg6 main_v11 (broadcastInDim S1x64 ![1] bcast_S64_S1x64_1 : (⟨S64, .f32⟩ : BufTy).Contents (Elt F) → (⟨S1x64, .f32⟩ : BufTy).Contents (Elt F)),
    unary main_v11 main_v12 (broadcastInDim S32768x64 ![0, 1] bcast_S1x64_S32768x64_0_1 : (⟨S1x64, .f32⟩ : BufTy).Contents (Elt F) → (⟨S32768x64, .f32⟩ : BufTy).Contents (Elt F)),
    binary main_v10 main_v12 main_v13 (addf : (⟨S32768x64, .f32⟩ : BufTy).Contents (Elt F) → (⟨S32768x64, .f32⟩ : BufTy).Contents (Elt F) → (⟨S32768x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x64, .f32⟩) main_call2_v0) (broadcastInDim S32768x64 ![] bcast_S_S32768x64),
    TRef.binary (TRef.of (T := ⟨S32768x64, .f32⟩) main_v13) (TRef.of (T := ⟨S32768x64, .f32⟩) main_call2_v0) (TRef.of (T := ⟨S32768x64, .f32⟩) main_v14) maximumf ]

/-- The squared distances. -/
abbrev distOps : List (HloOp τ sig (Elt F)) :=
  [ binary main_v14 main_v14 main_v15 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v15 main_cst main_v16 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v16 main_v17 (broadcastInDim S32768x1 ![0] bcast_S32768_S32768x1_0 : (⟨S32768, .f32⟩ : BufTy).Contents (Elt F) → (⟨S32768x1, .f32⟩ : BufTy).Contents (Elt F)),
    unary main_arg13 main_v18 ((transpose S64x1024 [1, 0] · transposes_S1024x64_S64x1024_1_0) : (⟨S1024x64, .f32⟩ : BufTy).Contents (Elt F) → (⟨S64x1024, .f32⟩ : BufTy).Contents (Elt F)),
    binary main_v14 main_v18 main_v19 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_0 (constant S_ .f32 0x40000000#32),
    unary main_cst_0 main_v20 (broadcastInDim S32768x1024 ![] bcast_S_S32768x1024 : (⟨S_, .f32⟩ : BufTy).Contents (Elt F) → (⟨S32768x1024, .f32⟩ : BufTy).Contents (Elt F)),
    binary main_v20 main_v19 main_v21 (mulf : (⟨S32768x1024, .f32⟩ : BufTy).Contents (Elt F) → (⟨S32768x1024, .f32⟩ : BufTy).Contents (Elt F) → (⟨S32768x1024, .f32⟩ : BufTy).Contents (Elt F)),
    unary main_v17 main_v22 (broadcastInDim S32768x1024 ![0, 1] bcast_S32768x1_S32768x1024_0_1 : (⟨S32768x1, .f32⟩ : BufTy).Contents (Elt F) → (⟨S32768x1024, .f32⟩ : BufTy).Contents (Elt F)),
    binary main_v22 main_v21 main_v23 (subf : (⟨S32768x1024, .f32⟩ : BufTy).Contents (Elt F) → (⟨S32768x1024, .f32⟩ : BufTy).Contents (Elt F) → (⟨S32768x1024, .f32⟩ : BufTy).Contents (Elt F)),
    binary main_arg13 main_arg13 main_v24 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v24 main_cst_1 main_v25 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v25 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S32768x1024 ![0, 1] bcast_S1x1024_S32768x1024_0_1 : (⟨S1x1024, .f32⟩ : BufTy).Contents (Elt F) → (⟨S32768x1024, .f32⟩ : BufTy).Contents (Elt F)),
    binary main_v23 main_v27 main_v28 (addf : (⟨S32768x1024, .f32⟩ : BufTy).Contents (Elt F) → (⟨S32768x1024, .f32⟩ : BufTy).Contents (Elt F) → (⟨S32768x1024, .f32⟩ : BufTy).Contents (Elt F)) ]

/-- The arg-min. -/
abbrev argminOps : List (HloOp τ sig (Elt F)) :=
  [ TRef.nullary (TRef.of (T := ⟨S32768x1024, .i32⟩) main_call3_v0) (iotaInDim S32768x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S32768x1024, .f32⟩) main_v28) (TRef.of (T := ⟨S32768x1024, .i32⟩) main_call3_v0) (TRef.of (T := ⟨S_, .f32⟩) main_call3_cst) (TRef.of (T := ⟨S_, .i32⟩) main_call3_c) (TRef.of (T := ⟨S32768, .f32⟩) main_call3_v1_0) (fun x y u v j => (Host.argReduce reducer_argmin_f32_i32 x y u v reducesTo_S32768x1024_S32768_d1 h_S_ j).1),
    TRef.quaternary (TRef.of (T := ⟨S32768x1024, .f32⟩) main_v28) (TRef.of (T := ⟨S32768x1024, .i32⟩) main_call3_v0) (TRef.of (T := ⟨S_, .f32⟩) main_call3_cst) (TRef.of (T := ⟨S_, .i32⟩) main_call3_c) (TRef.of (T := ⟨S32768, .i32⟩) main_v29) (fun x y u v j => (Host.argReduce reducer_argmin_f32_i32 x y u v reducesTo_S32768x1024_S32768_d1 h_S_ j).2) ]

/-- The look-up of the nearest codewords. -/
abbrev takeOps : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S32768, .i32⟩) main_call4_v0) (broadcastInDim S32768 ![] bcast_S_S32768),
    TRef.binary (TRef.of (T := ⟨S32768, .i32⟩) main_v29) (TRef.of (T := ⟨S32768, .i32⟩) main_call4_v0) (TRef.of (T := ⟨S32768, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S32768, .i32⟩) main_call4_v2) (broadcastInDim S32768 ![] bcast_S_S32768),
    TRef.binary (TRef.of (T := ⟨S32768, .i32⟩) main_v29) (TRef.of (T := ⟨S32768, .i32⟩) main_call4_v2) (TRef.of (T := ⟨S32768, .i32⟩) main_call4_v3) addi,
    TRef.ternary (TRef.of (T := ⟨S32768, .i1⟩) main_call4_v1) (TRef.of (T := ⟨S32768, .i32⟩) main_call4_v3) (TRef.of (T := ⟨S32768, .i32⟩) main_v29) (TRef.of (T := ⟨S32768, .i32⟩) main_call4_v4) select,
    TRef.unary (TRef.of (T := ⟨S32768, .i32⟩) main_call4_v4) (TRef.of (T := ⟨S32768x1, .i32⟩) main_call4_v5) (broadcastInDim S32768x1 ![0] bcast_S32768_S32768x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S32768x1, .i32⟩) main_call4_v6) (broadcastInDim S32768x1 ![] bcast_S_S32768x1),
    TRef.binary (TRef.of (T := ⟨S32768x1, .i32⟩) main_call4_v5) (TRef.of (T := ⟨S32768x1, .i32⟩) main_call4_v6) (TRef.of (T := ⟨S32768x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S32768x1, .i32⟩) main_call4_v9) (broadcastInDim S32768x1 ![0, 1] bcast_S1x1_S32768x1_0_1),
    TRef.binary (TRef.of (T := ⟨S32768x1, .i32⟩) main_call4_v5) (TRef.of (T := ⟨S32768x1, .i32⟩) main_call4_v9) (TRef.of (T := ⟨S32768x1, .i1⟩) main_call4_v10) (cmpi .sle),
    TRef.binary (TRef.of (T := ⟨S32768x1, .i1⟩) main_call4_v7) (TRef.of (T := ⟨S32768x1, .i1⟩) main_call4_v10) (TRef.of (T := ⟨S32768x1, .i1⟩) main_call4_v11) andi,
    TRef.nullary (TRef.of (T := ⟨S_, .i1⟩) main_call4_c_3) (constantI S_ 1 1#1),
    TRef.binary (TRef.of (T := ⟨S32768x1, .i1⟩) main_call4_v11) (TRef.of (T := ⟨S_, .i1⟩) main_call4_c_3) (TRef.of (T := ⟨S32768, .i1⟩) main_call4_v12) (fun x v => Host.reduce IntOp.andi x v reducesTo_S32768x1_S32768_d1 h_S_),
    TRef.binary (TRef.of (T := ⟨S1024x64, .f32⟩) main_arg13) (TRef.of (T := ⟨S32768x1, .i32⟩) main_call4_v5) (TRef.of (T := ⟨S32768x64, .f32⟩) main_call4_v13) (fun x i => Host.gather gather_S1024x64_S32768x1_S32768x64_1_0_n_n_0_1_164 x i),
    TRef.unary (TRef.of (T := ⟨S32768, .i1⟩) main_call4_v12) (TRef.of (T := ⟨S32768x64, .i1⟩) main_call4_v14) (broadcastInDim S32768x64 ![0] bcast_S32768_S32768x64_0),
    TRef.nullary (TRef.of (T := ⟨S_, .f32⟩) main_call4_cst) (constant S_ .f32 0x7FC00000#32),
    TRef.unary (TRef.of (T := ⟨S_, .f32⟩) main_call4_cst) (TRef.of (T := ⟨S32768x64, .f32⟩) main_call4_v15) (broadcastInDim S32768x64 ![] bcast_S_S32768x64),
    TRef.ternary (TRef.of (T := ⟨S32768x64, .i1⟩) main_call4_v14) (TRef.of (T := ⟨S32768x64, .f32⟩) main_call4_v13) (TRef.of (T := ⟨S32768x64, .f32⟩) main_call4_v15) (TRef.of (T := ⟨S32768x64, .f32⟩) main_v30) select ]

/-- The two losses of the codebook and the quantised encoding. -/
abbrev shiftOps : List (HloOp τ sig (Elt F)) :=
  [ binary main_v30 main_v14 main_v31 (subf : (⟨S32768x64, .f32⟩ : BufTy).Contents (Elt F) → (⟨S32768x64, .f32⟩ : BufTy).Contents (Elt F) → (⟨S32768x64, .f32⟩ : BufTy).Contents (Elt F)),
    binary main_v31 main_v31 main_v32 (mulf : (⟨S32768x64, .f32⟩ : BufTy).Contents (Elt F) → (⟨S32768x64, .f32⟩ : BufTy).Contents (Elt F) → (⟨S32768x64, .f32⟩ : BufTy).Contents (Elt F)),
    nullary main_cst_2 (constant S_ .f32 0x00000000#32),
    binary main_v32 main_cst_2 main_v33 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_3 (constant S_ .f32 0x4A000000#32),
    binary main_v33 main_cst_3 main_v34 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v34 main_v35 (mulf : (⟨S_, .f32⟩ : BufTy).Contents (Elt F) → (⟨S_, .f32⟩ : BufTy).Contents (Elt F) → (⟨S_, .f32⟩ : BufTy).Contents (Elt F)),
    binary main_v30 main_v14 main_v36 (subf : (⟨S32768x64, .f32⟩ : BufTy).Contents (Elt F) → (⟨S32768x64, .f32⟩ : BufTy).Contents (Elt F) → (⟨S32768x64, .f32⟩ : BufTy).Contents (Elt F)),
    binary main_v36 main_v36 main_v37 (mulf : (⟨S32768x64, .f32⟩ : BufTy).Contents (Elt F) → (⟨S32768x64, .f32⟩ : BufTy).Contents (Elt F) → (⟨S32768x64, .f32⟩ : BufTy).Contents (Elt F)),
    nullary main_cst_5 (constant S_ .f32 0x00000000#32),
    binary main_v37 main_cst_5 main_v38 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_6 (constant S_ .f32 0x4A000000#32),
    binary main_v38 main_cst_6 main_v39 (Host.divf : (⟨S_, .f32⟩ : BufTy).Contents (Elt F) → (⟨S_, .f32⟩ : BufTy).Contents (Elt F) → (⟨S_, .f32⟩ : BufTy).Contents (Elt F)),
    binary main_v39 main_v35 main_v40 (addf : (⟨S_, .f32⟩ : BufTy).Contents (Elt F) → (⟨S_, .f32⟩ : BufTy).Contents (Elt F) → (⟨S_, .f32⟩ : BufTy).Contents (Elt F)),
    binary main_v30 main_v14 main_v41 (subf : (⟨S32768x64, .f32⟩ : BufTy).Contents (Elt F) → (⟨S32768x64, .f32⟩ : BufTy).Contents (Elt F) → (⟨S32768x64, .f32⟩ : BufTy).Contents (Elt F)),
    binary main_v14 main_v41 main_v42 (addf : (⟨S32768x64, .f32⟩ : BufTy).Contents (Elt F) → (⟨S32768x64, .f32⟩ : BufTy).Contents (Elt F) → (⟨S32768x64, .f32⟩ : BufTy).Contents (Elt F)) ]

/-- The decoder's first two layers, but for the second rectifier. -/
abbrev decodeOps : List (HloOp τ sig (Elt F)) :=
  [ binary main_v42 main_arg7 main_v43 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg8 main_v44 (broadcastInDim S1x128 ![1] bcast_S128_S1x128_1 : (⟨S128, .f32⟩ : BufTy).Contents (Elt F) → (⟨S1x128, .f32⟩ : BufTy).Contents (Elt F)),
    unary main_v44 main_v45 (broadcastInDim S32768x128 ![0, 1] bcast_S1x128_S32768x128_0_1 : (⟨S1x128, .f32⟩ : BufTy).Contents (Elt F) → (⟨S32768x128, .f32⟩ : BufTy).Contents (Elt F)),
    binary main_v43 main_v45 main_v46 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32768x128, .f32⟩) main_call5_v0) (broadcastInDim S32768x128 ![] bcast_S_S32768x128),
    TRef.binary (TRef.of (T := ⟨S32768x128, .f32⟩) main_v46) (TRef.of (T := ⟨S32768x128, .f32⟩) main_call5_v0) (TRef.of (T := ⟨S32768x128, .f32⟩) main_v47) maximumf,
    binary main_v47 main_arg9 main_v48 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg10 main_v49 (broadcastInDim S1x64 ![1] bcast_S64_S1x64_1 : (⟨S64, .f32⟩ : BufTy).Contents (Elt F) → (⟨S1x64, .f32⟩ : BufTy).Contents (Elt F)),
    unary main_v49 main_v50 (broadcastInDim S32768x64 ![0, 1] bcast_S1x64_S32768x64_0_1 : (⟨S1x64, .f32⟩ : BufTy).Contents (Elt F) → (⟨S32768x64, .f32⟩ : BufTy).Contents (Elt F)),
    binary main_v48 main_v50 main_v51 (addf : (⟨S32768x64, .f32⟩ : BufTy).Contents (Elt F) → (⟨S32768x64, .f32⟩ : BufTy).Contents (Elt F) → (⟨S32768x64, .f32⟩ : BufTy).Contents (Elt F)) ]

/-- The rest of the decoder. -/
abbrev outputOps : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S32768x64, .f32⟩) main_call6_v0) (broadcastInDim S32768x64 ![] bcast_S_S32768x64),
    TRef.binary (TRef.of (T := ⟨S32768x64, .f32⟩) main_v51) (TRef.of (T := ⟨S32768x64, .f32⟩) main_call6_v0) (TRef.of (T := ⟨S32768x64, .f32⟩) main_v52) maximumf,
    binary main_v52 main_arg11 main_v53 ((fun l r => Host.dotGeneral dot_S32768x64_S64x256_S32768x256_1_0_0_1_n_n none l r) : (⟨S32768x64, .f32⟩ : BufTy).Contents (Elt F) → (⟨S64x256, .f32⟩ : BufTy).Contents (Elt F) → (⟨S32768x256, .f32⟩ : BufTy).Contents (Elt F)),
    unary main_arg12 main_v54 (broadcastInDim S1x256 ![1] bcast_S256_S1x256_1 : (⟨S256, .f32⟩ : BufTy).Contents (Elt F) → (⟨S1x256, .f32⟩ : BufTy).Contents (Elt F)),
    unary main_v54 main_v55 (broadcastInDim S32768x256 ![0, 1] bcast_S1x256_S32768x256_0_1 : (⟨S1x256, .f32⟩ : BufTy).Contents (Elt F) → (⟨S32768x256, .f32⟩ : BufTy).Contents (Elt F)),
    binary main_v53 main_v55 main_v56 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x256, .f32⟩) main_call7_v0) (broadcastInDim S32768x256 ![] bcast_S_S32768x256),
    TRef.binary (TRef.of (T := ⟨S32768x256, .f32⟩) main_v56) (TRef.of (T := ⟨S32768x256, .f32⟩) main_call7_v0) (TRef.of (T := ⟨S32768x256, .f32⟩) main_v57) maximumf ]

/-- The reconstruction error and the loss. -/
abbrev lossOps : List (HloOp τ sig (Elt F)) :=
  [ binary main_v57 main_arg0 main_v58 (subf : (⟨S32768x256, .f32⟩ : BufTy).Contents (Elt F) → (⟨S32768x256, .f32⟩ : BufTy).Contents (Elt F) → (⟨S32768x256, .f32⟩ : BufTy).Contents (Elt F)),
    binary main_v58 main_v58 main_v59 (mulf : (⟨S32768x256, .f32⟩ : BufTy).Contents (Elt F) → (⟨S32768x256, .f32⟩ : BufTy).Contents (Elt F) → (⟨S32768x256, .f32⟩ : BufTy).Contents (Elt F)),
    nullary main_cst_7 (constant S_ .f32 0x00000000#32),
    binary main_v59 main_cst_7 main_v60 ((fun x v => Host.reduceAdd x v reducesTo_S32768x256_S_d0_1 h_S_) : (⟨S32768x256, .f32⟩ : BufTy).Contents (Elt F) → (⟨S_, .f32⟩ : BufTy).Contents (Elt F) → (⟨S_, .f32⟩ : BufTy).Contents (Elt F)),
    nullary main_cst_8 (constant S_ .f32 0x4B000000#32),
    binary main_v60 main_cst_8 main_v61 (Host.divf : (⟨S_, .f32⟩ : BufTy).Contents (Elt F) → (⟨S_, .f32⟩ : BufTy).Contents (Elt F) → (⟨S_, .f32⟩ : BufTy).Contents (Elt F)),
    binary main_v61 main_v40 main_v62 (addf : (⟨S_, .f32⟩ : BufTy).Contents (Elt F) → (⟨S_, .f32⟩ : BufTy).Contents (Elt F) → (⟨S_, .f32⟩ : BufTy).Contents (Elt F)),
    reshape main_v62 main_v63 (rfl : (.f32 : EltTy) = .f32) shapeCasts_S_S1 ]

/-- The first part of the reference's operations. -/
def firstOps : List (HloOp τ sig (Elt F)) :=
  encodeOps ++ (distOps ++ (argminOps ++ (takeOps ++ (shiftOps ++ decodeOps))))

/-- The second part of the reference's operations. -/
def secondOps : List (HloOp τ sig (Elt F)) := outputOps ++ lossOps

/-- All of the reference's operations. -/
abbrev ops : List (HloOp τ sig (Elt F)) := firstOps ++ secondOps

set_option maxHeartbeats 4000000 in
/-- The reference's first part runs its operations in order. -/
theorem main_part0_eq (c : Dev nD) : main_part0 (F := F) c = seq firstOps := rfl

set_option maxHeartbeats 4000000 in
/-- The reference's second part runs its operations in order. -/
theorem main_part1_eq (c : Dev nD) : main_part1 (F := F) c = seq secondOps := rfl

/-- The reference runs its operations in order. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem encodeOps_sub : (encodeOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem encodeOps_fresh : (encodeOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the stage writes. -/
abbrev encodeOps_out : List (Ref sig .tc) := [main_v0, main_v1, main_v2, main_v3, main_call0_cst, main_call0_v0, main_v4, main_v5, main_v6, main_v7, main_v8, main_call1_cst, main_call1_v0, main_v9, main_v10, main_v11, main_v12, main_v13, main_call2_cst, main_call2_v0, main_v14]

theorem encodeOps_writes : (encodeOps : List (HloOp τ sig (Elt F))).Forall fun op => op.writes ⊆ (encodeOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem encodeOps_keep (V : Valuation τ sig (Elt F)) (r : Ref sig .tc) (h : r ∉ encodeOps_out) :
    after encodeOps V (Proc.devRef .tc r) = V (Proc.devRef .tc r) :=
  after_of_writes_sub encodeOps _ encodeOps_writes h

theorem distOps_sub : (distOps : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem distOps_fresh : (distOps : List (HloOp τ sig (Elt F))).Forall fun op => op.fresh = ∅ :=
  ⟨rfl, rfl, rfl, rfl, rfl, rfl, rfl, rfl, rfl, rfl, rfl, rfl, rfl, rfl, rfl, rfl, rfl⟩

/-- The buffers the stage writes. -/
abbrev distOps_out : List (Ref sig .tc) := [main_v15, main_cst, main_v16, main_v17, main_v18, main_v19, main_cst_0, main_v20, main_v21, main_v22, main_v23, main_v24, main_cst_1, main_v25, main_v26, main_v27, main_v28]

theorem distOps_writes : (distOps : List (HloOp τ sig (Elt F))).Forall fun op => op.writes ⊆ (distOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem distOps_keep (V : Valuation τ sig (Elt F)) (r : Ref sig .tc) (h : r ∉ distOps_out) :
    after distOps V (Proc.devRef .tc r) = V (Proc.devRef .tc r) :=
  after_of_writes_sub distOps _ distOps_writes h

theorem argminOps_sub : (argminOps : List (HloOp τ sig (Elt F))).Forall fun op => op.bufs ⊆ tcRefs τ sig :=
  ⟨nullary_bufs_sub .., nullary_bufs_sub .., nullary_bufs_sub .., quaternary_bufs_sub .., quaternary_bufs_sub ..⟩

theorem argminOps_fresh : (argminOps : List (HloOp τ sig (Elt F))).Forall fun op => op.fresh = ∅ :=
  ⟨rfl, rfl, rfl, rfl, rfl⟩

/-- The buffers the stage writes. -/
abbrev argminOps_out : List (Ref sig .tc) := [main_call3_v0, main_call3_cst, main_call3_c, main_call3_v1_0, main_v29]

theorem argminOps_writes : (argminOps : List (HloOp τ sig (Elt F))).Forall fun op => op.writes ⊆ (argminOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide)⟩

/-- A buffer the stage does not write keeps its contents through it. -/
theorem argminOps_keep (V : Valuation τ sig (Elt F)) (r : Ref sig .tc) (h : r ∉ argminOps_out) :
    after argminOps V (Proc.devRef .tc r) = V (Proc.devRef .tc r) :=
  after_of_writes_sub argminOps _ argminOps_writes h

theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem takeOps_fresh : (takeOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers the stage writes. -/
abbrev takeOps_out : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v30]

theorem takeOps_writes : (takeOps : List (HloOp τ sig (Elt F))).Forall fun op => op.writes ⊆ (takeOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem takeOps_keep (V : Valuation τ sig (Elt F)) (r : Ref sig .tc) (h : r ∉ takeOps_out) :
    after takeOps V (Proc.devRef .tc r) = V (Proc.devRef .tc r) :=
  after_of_writes_sub takeOps _ takeOps_writes h

theorem shiftOps_sub : (shiftOps : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub ..⟩

theorem shiftOps_fresh : (shiftOps : List (HloOp τ sig (Elt F))).Forall fun op => op.fresh = ∅ :=
  ⟨rfl, rfl, rfl, rfl, rfl, rfl, rfl, rfl, rfl, rfl, rfl, rfl, rfl, rfl, rfl, rfl, rfl⟩

/-- The buffers the stage writes. -/
abbrev shiftOps_out : List (Ref sig .tc) := [main_v31, main_v32, main_cst_2, main_v33, main_cst_3, main_v34, main_cst_4, main_v35, main_v36, main_v37, main_cst_5, main_v38, main_cst_6, main_v39, main_v40, main_v41, main_v42]

theorem shiftOps_writes : (shiftOps : List (HloOp τ sig (Elt F))).Forall fun op => op.writes ⊆ (shiftOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem shiftOps_keep (V : Valuation τ sig (Elt F)) (r : Ref sig .tc) (h : r ∉ shiftOps_out) :
    after shiftOps V (Proc.devRef .tc r) = V (Proc.devRef .tc r) :=
  after_of_writes_sub shiftOps _ shiftOps_writes h

theorem decodeOps_sub : (decodeOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem decodeOps_fresh : (decodeOps : List (HloOp τ sig (Elt F))).Forall fun op => op.fresh = ∅ :=
  ⟨rfl, rfl, rfl, rfl, rfl, rfl, rfl, rfl, rfl, rfl, rfl⟩

/-- The buffers the stage writes. -/
abbrev decodeOps_out : List (Ref sig .tc) := [main_v43, main_v44, main_v45, main_v46, main_call5_cst, main_call5_v0, main_v47, main_v48, main_v49, main_v50, main_v51]

theorem decodeOps_writes : (decodeOps : List (HloOp τ sig (Elt F))).Forall fun op => op.writes ⊆ (decodeOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem decodeOps_keep (V : Valuation τ sig (Elt F)) (r : Ref sig .tc) (h : r ∉ decodeOps_out) :
    after decodeOps V (Proc.devRef .tc r) = V (Proc.devRef .tc r) :=
  after_of_writes_sub decodeOps _ decodeOps_writes h

theorem outputOps_sub : (outputOps : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., unary_bufs_sub .., binary_bufs_sub ..⟩

theorem outputOps_fresh : (outputOps : List (HloOp τ sig (Elt F))).Forall fun op => op.fresh = ∅ :=
  ⟨rfl, rfl, rfl, rfl, rfl, rfl, rfl, rfl, rfl, rfl⟩

/-- The buffers the stage writes. -/
abbrev outputOps_out : List (Ref sig .tc) := [main_call6_cst, main_call6_v0, main_v52, main_v53, main_v54, main_v55, main_v56, main_call7_cst, main_call7_v0, main_v57]

theorem outputOps_writes : (outputOps : List (HloOp τ sig (Elt F))).Forall fun op => op.writes ⊆ (outputOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem outputOps_keep (V : Valuation τ sig (Elt F)) (r : Ref sig .tc) (h : r ∉ outputOps_out) :
    after outputOps V (Proc.devRef .tc r) = V (Proc.devRef .tc r) :=
  after_of_writes_sub outputOps _ outputOps_writes h

theorem lossOps_sub : (lossOps : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., reshape_bufs_sub ..⟩

theorem lossOps_fresh : (lossOps : List (HloOp τ sig (Elt F))).Forall fun op => op.fresh = ∅ :=
  ⟨rfl, rfl, rfl, rfl, rfl, rfl, rfl, rfl⟩

/-- The buffers the stage writes. -/
abbrev lossOps_out : List (Ref sig .tc) := [main_v58, main_v59, main_cst_7, main_v60, main_cst_8, main_v61, main_v62, main_v63]

theorem lossOps_writes : (lossOps : List (HloOp τ sig (Elt F))).Forall fun op => op.writes ⊆ (lossOps_out.map (Proc.devRef (τ := τ) .tc)).toFinset := by
  simp only [List.Forall, nullary_writes, unary_writes, binary_writes, ternary_writes, quaternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

/-- A buffer the stage does not write keeps its contents through it. -/
theorem lossOps_keep (V : Valuation τ sig (Elt F)) (r : Ref sig .tc) (h : r ∉ lossOps_out) :
    after lossOps V (Proc.devRef .tc r) = V (Proc.devRef .tc r) :=
  after_of_writes_sub lossOps _ lossOps_writes h

theorem ops_sub : (ops : List (HloOp τ sig (Elt F))).Forall fun op => op.bufs ⊆ tcRefs τ sig :=
  List.forall_iff_forall_mem.mpr fun op h => by
    simp only [ops, firstOps, secondOps, List.mem_append, or_assoc] at h
    rcases h with h | h | h | h | h | h | h | h
    exacts [List.forall_iff_forall_mem.mp encodeOps_sub op h, List.forall_iff_forall_mem.mp distOps_sub op h, List.forall_iff_forall_mem.mp argminOps_sub op h, List.forall_iff_forall_mem.mp takeOps_sub op h, List.forall_iff_forall_mem.mp shiftOps_sub op h, List.forall_iff_forall_mem.mp decodeOps_sub op h, List.forall_iff_forall_mem.mp outputOps_sub op h, List.forall_iff_forall_mem.mp lossOps_sub op h]

theorem ops_fresh : ∀ op ∈ (ops : List (HloOp τ sig (Elt F))), op.fresh = ∅ := fun op h => by
    simp only [ops, firstOps, secondOps, List.mem_append, or_assoc] at h
    rcases h with h | h | h | h | h | h | h | h
    exacts [List.forall_iff_forall_mem.mp encodeOps_fresh op h, List.forall_iff_forall_mem.mp distOps_fresh op h, List.forall_iff_forall_mem.mp argminOps_fresh op h, List.forall_iff_forall_mem.mp takeOps_fresh op h, List.forall_iff_forall_mem.mp shiftOps_fresh op h, List.forall_iff_forall_mem.mp decodeOps_fresh op h, List.forall_iff_forall_mem.mp outputOps_fresh op h, List.forall_iff_forall_mem.mp lossOps_fresh op h]

/-- The contents of every buffer after the whole list: stage after stage. -/
theorem after_ops (V : Valuation τ sig (Elt F)) : after ops V
    = after lossOps (after outputOps (after decodeOps (after shiftOps (after takeOps (after argminOps (after distOps (after encodeOps V))))))) := by
  simp only [ops, firstOps, secondOps, after_append]

/-- On every device, from any memory with zero counters: every weakly fair execution of the reference terminates with each
    buffer at what the list of operations leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  (θ_run defs _ _).mono (fun _ h c b => h c b)
    (run_seq scopedRefs_eq scopedSems_eq defs main (fun _ => ops) main_eq (fun _ => ops_sub) m ρ fun _ => ops_fresh)

/-- The arguments, which no operation writes. -/
abbrev arguments : List (Ref sig .tc) := [main_arg0, main_arg1, main_arg2, main_arg3, main_arg4, main_arg5, main_arg6, main_arg7, main_arg8, main_arg9, main_arg10, main_arg11, main_arg12, main_arg13]

/-- An argument keeps its contents through the whole list. -/
theorem argument_keep (V : Valuation τ sig (Elt F)) (r : Ref sig .tc) (h : r ∈ arguments) :
    after ops V (Proc.devRef .tc r) = V (Proc.devRef .tc r) := by
  rw [after_ops]
  have apart : ∀ r ∈ arguments, r ∉ encodeOps_out ∧ r ∉ distOps_out ∧ r ∉ argminOps_out ∧ r ∉ takeOps_out ∧ r ∉ shiftOps_out ∧ r ∉ decodeOps_out ∧ r ∉ outputOps_out ∧ r ∉ lossOps_out := by decide
  obtain ⟨h1, h2, h3, h4, h5, h6, h7, h8⟩ := apart r h
  rw [lossOps_keep _ r h8, outputOps_keep _ r h7, decodeOps_keep _ r h6, shiftOps_keep _ r h5, takeOps_keep _ r h4, argminOps_keep _ r h3, distOps_keep _ r h2, encodeOps_keep _ r h1]

end Cert.ReferenceIdeal.Value

end
-- ==== Proof.ReferenceStages.lean ====
/- What each stage of the reference leaves in its results, as a function of what the stage reads. -/
module

public import proofs.«01_k».proof.Proof.ReferenceOps

@[expose] public section

set_option maxRecDepth 16384
set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- A dense layer from 256 to 64 columns, on every row: `x · w + b`. -/
def affine1 (x : FVec F S32768x256 .f32) (w : FVec F S256x64 .f32) (b : FVec F S64 .f32) : FVec F S32768x64 .f32 :=
  addf (Host.dotGeneral dot_S32768x256_S256x64_S32768x64_1_0_0_1_n_n none x w)
    (broadcastInDim S32768x64 ![0, 1] bcast_S1x64_S32768x64_0_1 (broadcastInDim S1x64 ![1] bcast_S64_S1x64_1 b))

/-- A dense layer from 64 to 128 columns, on every row: `x · w + b`. -/
def affine2 (x : FVec F S32768x64 .f32) (w : FVec F S64x128 .f32) (b : FVec F S128 .f32) : FVec F S32768x128 .f32 :=
  addf (Host.dotGeneral dot_S32768x64_S64x128_S32768x128_1_0_0_1_n_n none x w)
    (broadcastInDim S32768x128 ![0, 1] bcast_S1x128_S32768x128_0_1 (broadcastInDim S1x128 ![1] bcast_S128_S1x128_1 b))

/-- A dense layer from 128 to 64 columns, on every row: `x · w + b`. -/
def affine3 (x : FVec F S32768x128 .f32) (w : FVec F S128x64 .f32) (b : FVec F S64 .f32) : FVec F S32768x64 .f32 :=
  addf (Host.dotGeneral dot_S32768x128_S128x64_S32768x64_1_0_0_1_n_n none x w)
    (broadcastInDim S32768x64 ![0, 1] bcast_S1x64_S32768x64_0_1 (broadcastInDim S1x64 ![1] bcast_S64_S1x64_1 b))

/-- A dense layer from 64 to 256 columns, on every row: `x · w + b`. -/
def affine4 (x : FVec F S32768x64 .f32) (w : FVec F S64x256 .f32) (b : FVec F S256 .f32) : FVec F S32768x256 .f32 :=
  addf (Host.dotGeneral dot_S32768x64_S64x256_S32768x256_1_0_0_1_n_n none x w)
    (broadcastInDim S32768x256 ![0, 1] bcast_S1x256_S32768x256_0_1 (broadcastInDim S1x256 ![1] bcast_S256_S1x256_1 b))

/-- The rectifier on every entry of 64 columns. -/
def relu64 (x : FVec F S32768x64 .f32) : FVec F S32768x64 .f32 :=
  maximumf x (broadcastInDim S32768x64 ![] bcast_S_S32768x64 (constant S_ .f32 0x00000000#32))

/-- The rectifier on every entry of 128 columns. -/
def relu128 (x : FVec F S32768x128 .f32) : FVec F S32768x128 .f32 :=
  maximumf x (broadcastInDim S32768x128 ![] bcast_S_S32768x128 (constant S_ .f32 0x00000000#32))

/-- The rectifier on every entry of 256 columns. -/
def relu256 (x : FVec F S32768x256 .f32) : FVec F S32768x256 .f32 :=
  maximumf x (broadcastInDim S32768x256 ![] bcast_S_S32768x256 (constant S_ .f32 0x00000000#32))

/-- The encodings of all rows. -/
def encoded (x : FVec F S32768x256 .f32) (w : FVec F S256x64 .f32) (b : FVec F S64 .f32) (w' : FVec F S64x128 .f32)
    (b' : FVec F S128 .f32) (w'' : FVec F S128x64 .f32) (b'' : FVec F S64 .f32) : FVec F S32768x64 .f32 :=
  relu64 (affine3 (relu128 (affine2 (relu64 (affine1 x w b)) w' b')) w'' b'')

/-- The squared distances of all encodings from all codewords. -/
def distances (z : FVec F S32768x64 .f32) (e : FVec F S1024x64 .f32) : FVec F S32768x1024 .f32 :=
  addf (subf
      (broadcastInDim S32768x1024 ![0, 1] bcast_S32768x1_S32768x1024_0_1 (broadcastInDim S32768x1 ![0] bcast_S32768_S32768x1_0
        (Host.reduceAdd (mulf z z) (constant S_ .f32 0x00000000#32) reducesTo_S32768x64_S32768_d1 h_S_)))
      (mulf (broadcastInDim S32768x1024 ![] bcast_S_S32768x1024 (constant S_ .f32 0x40000000#32))
        (Host.dotGeneral dot_S32768x64_S64x1024_S32768x1024_1_0_0_1_n_n none z (transpose S64x1024 [1, 0] e transposes_S1024x64_S64x1024_1_0))))
    (broadcastInDim S32768x1024 ![0, 1] bcast_S1x1024_S32768x1024_0_1 (broadcastInDim S1x1024 ![1] bcast_S1024_S1x1024_1
      (Host.reduceAdd (mulf e e) (constant S_ .f32 0x00000000#32) reducesTo_S1024x64_S1024_d1 h_S_)))

/-- The position of the least entry of each row. -/
def argmins (d : FVec F S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-- The positions with a negative one counted from the end, as a column. -/
def wrapped (k : IVec S32768 32) : IVec S32768x1 32 :=
  broadcastInDim S32768x1 ![0] bcast_S32768_S32768x1_0
    (select (cmpi .slt k (broadcastInDim S32768 ![] bcast_S_S32768 (constantI S_ 32 0#32)))
      (addi k (broadcastInDim S32768 ![] bcast_S_S32768 (constantI S_ 32 1024#32))) k)

/-- Whether each position lies in the codebook. -/
def inside (k : IVec S32768x1 32) : IVec S32768 1 :=
  Host.reduce IntOp.andi
    (andi (cmpi .sge k (broadcastInDim S32768x1 ![] bcast_S_S32768x1 (constantI S_ 32 0#32)))
      (cmpi .sle k (broadcastInDim S32768x1 ![0, 1] bcast_S1x1_S32768x1_0_1 (broadcastInDim S1x1 ![1] bcast_S1_S1x1_1 (constantI S1 32 1023#32)))))
    (constantI S_ 1 1#1) reducesTo_S32768x1_S32768_d1 h_S_

/-- The codewords at the given positions. -/
def looked (e : FVec F S1024x64 .f32) (k : IVec S32768 32) : FVec F S32768x64 .f32 :=
  select (broadcastInDim S32768x64 ![0] bcast_S32768_S32768x64_0 (inside (wrapped k)))
    (Host.gather gather_S1024x64_S32768x1_S32768x64_1_0_n_n_0_1_164 e (wrapped k))
    (broadcastInDim S32768x64 ![] bcast_S_S32768x64 (constant S_ .f32 0x7FC00000#32))

/-- The mean of the squares of the shifts from the encodings to their codewords. -/
def meanSq (q z : FVec F S32768x64 .f32) : FVec F S_ .f32 :=
  Host.divf (Host.reduceAdd (mulf (subf q z) (subf q z)) (constant S_ .f32 0x00000000#32) reducesTo_S32768x64_S_d0_1 h_S_)
    (constant S_ .f32 0x4A000000#32)

/-- The codebook's part of the loss. -/
def bookLoss (q z : FVec F S32768x64 .f32) : FVec F S_ .f32 :=
  addf (meanSq q z) (mulf (constant S_ .f32 0x3E800000#32) (meanSq q z))

/-- The mean of the squared reconstruction errors. -/
def meanErr (y x : FVec F S32768x256 .f32) : FVec F S_ .f32 :=
  Host.divf (Host.reduceAdd (mulf (subf y x) (subf y x)) (constant S_ .f32 0x00000000#32) reducesTo_S32768x256_S_d0_1 h_S_)
    (constant S_ .f32 0x4B000000#32)

variable (V : Valuation τ sig (Elt F))

set_option maxHeartbeats 2000000 in
/-- The first stage leaves the encodings. -/
theorem encode_after : after encodeOps V (Proc.devRef .tc main_v14) = encoded (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp only [encodeOps, TRef.nullary, TRef.unary, TRef.binary, TRef.ternary, TRef.quaternary, TRef.toBuf, TRef.ofBuf, cast_eq]
  after_results_simp
  rfl

set_option maxHeartbeats 2000000 in
/-- The second stage leaves the squared distances. -/
theorem dist_after : after distOps V (Proc.devRef .tc main_v28) = distances (V (Proc.devRef .tc main_v14)) (V (Proc.devRef .tc main_arg13)) := by
  simp only [distOps, TRef.nullary, TRef.unary, TRef.binary, TRef.ternary, TRef.quaternary, TRef.toBuf, TRef.ofBuf, cast_eq]
  after_results_simp
  rfl

set_option maxHeartbeats 2000000 in
/-- The third stage leaves the positions of the least distances. -/
theorem argmin_after : after argminOps V (Proc.devRef .tc main_v29) = argmins (V (Proc.devRef .tc main_v28)) := by
  simp only [argminOps, TRef.nullary, TRef.unary, TRef.binary, TRef.ternary, TRef.quaternary, TRef.toBuf, TRef.ofBuf, cast_eq]
  after_results_simp
  rfl

set_option maxHeartbeats 2000000 in
/-- The fourth stage leaves the codewords there. -/
theorem take_after : after takeOps V (Proc.devRef .tc main_v30) = looked (V (Proc.devRef .tc main_arg13)) (V (Proc.devRef .tc main_v29)) := by
  simp only [takeOps, TRef.nullary, TRef.unary, TRef.binary, TRef.ternary, TRef.quaternary, TRef.toBuf, TRef.ofBuf, cast_eq]
  after_results_simp
  rfl

set_option maxHeartbeats 2000000 in
/-- The fifth stage leaves the codebook's part of the loss. -/
theorem shift_after : after shiftOps V (Proc.devRef .tc main_v40) = bookLoss (V (Proc.devRef .tc main_v30)) (V (Proc.devRef .tc main_v14)) := by
  simp only [shiftOps, TRef.nullary, TRef.unary, TRef.binary, TRef.ternary, TRef.quaternary, TRef.toBuf, TRef.ofBuf, cast_eq]
  after_results_simp
  rfl

set_option maxHeartbeats 2000000 in
/-- The fifth stage also leaves the quantised encodings. -/
theorem latent_after : after shiftOps V (Proc.devRef .tc main_v42) = addf (V (Proc.devRef .tc main_v14)) (subf (V (Proc.devRef .tc main_v30)) (V (Proc.devRef .tc main_v14))) := by
  simp only [shiftOps, TRef.nullary, TRef.unary, TRef.binary, TRef.ternary, TRef.quaternary, TRef.toBuf, TRef.ofBuf, cast_eq]
  after_results_simp

set_option maxHeartbeats 2000000 in
/-- The sixth stage leaves the decoder's second dense layer. -/
theorem decode_after : after decodeOps V (Proc.devRef .tc main_v51) = affine3 (relu128 (affine2 (V (Proc.devRef .tc main_v42)) (V (Proc.devRef .tc main_arg7)) (V (Proc.devRef .tc main_arg8)))) (V (Proc.devRef .tc main_arg9)) (V (Proc.devRef .tc main_arg10)) := by
  simp only [decodeOps, TRef.nullary, TRef.unary, TRef.binary, TRef.ternary, TRef.quaternary, TRef.toBuf, TRef.ofBuf, cast_eq]
  after_results_simp
  rfl

set_option maxHeartbeats 2000000 in
/-- The seventh stage leaves the reconstructions. -/
theorem output_after : after outputOps V (Proc.devRef .tc main_v57) = relu256 (affine4 (relu64 (V (Proc.devRef .tc main_v51))) (V (Proc.devRef .tc main_arg11)) (V (Proc.devRef .tc main_arg12))) := by
  simp only [outputOps, TRef.nullary, TRef.unary, TRef.binary, TRef.ternary, TRef.quaternary, TRef.toBuf, TRef.ofBuf, cast_eq]
  after_results_simp
  rfl

set_option maxHeartbeats 2000000 in
/-- The last stage leaves the loss. -/
theorem loss_after : after lossOps V (Proc.devRef .tc main_v63) = shapeCast _ (addf (meanErr (V (Proc.devRef .tc main_v57)) (V (Proc.devRef .tc main_arg0))) (V (Proc.devRef .tc main_v40))) shapeCasts_S_S1 := by
  simp only [lossOps, TRef.nullary, TRef.unary, TRef.binary, TRef.ternary, TRef.quaternary, TRef.toBuf, TRef.ofBuf, cast_eq]
  after_results_simp
  rfl

end Cert.ReferenceIdeal.Value

end
-- ==== Proof.ReferenceRows.lean ====
/- The stages of the reference over the extended reals, row by row, in the terms of `Cert.Spec`. -/
module

public import proofs.«01_k».proof.Proof.ReferenceStages
public import proofs.«01_k».proof.Proof.Numbers

@[expose] public section

set_option maxRecDepth 16384

noncomputable section

namespace Cert.ReferenceIdeal.Value

open Cert.ReferenceIdeal Cert.ReferenceIdeal.Gen Idealize.ShloMosaic Cert.Spec Cert.Numbers

/-! ## Dense layers and distances -/

/-- The encodings, row by row. -/
theorem encoded_row (x : FVec Ideal S32768x256 .f32) (w : FVec Ideal S256x64 .f32) (b : FVec Ideal S64 .f32) (w' : FVec Ideal S64x128 .f32)
    (b' : FVec Ideal S128 .f32) (w'' : FVec Ideal S128x64 .f32) (b'' : FVec Ideal S64 .f32) (r : Fin 32768) :
    rowOf (encoded x w b w' b' w'' b'') r = mlp (rowOf x r) w b w' b' w'' b'' := by
  funext l
  unfold rowOf
  pointwise [encoded, relu64, affine3, relu128, affine2, affine1]
  rfl

/-- The decoder, row by row. -/
theorem decoded_row (z : FVec Ideal S32768x64 .f32) (w : FVec Ideal S64x128 .f32) (b : FVec Ideal S128 .f32) (w' : FVec Ideal S128x64 .f32)
    (b' : FVec Ideal S64 .f32) (w'' : FVec Ideal S64x256 .f32) (b'' : FVec Ideal S256 .f32) (r : Fin 32768) :
    rowOf (relu256 (affine4 (relu64 (affine3 (relu128 (affine2 z w b)) w' b')) w'' b'')) r = mlp (rowOf z r) w b w' b' w'' b'' := by
  funext l
  unfold rowOf
  pointwise [relu256, affine4, relu64, affine3, relu128, affine2]
  rfl

/-- The squared distances, row by row. -/
theorem distances_row (z : FVec Ideal S32768x64 .f32) (e : FVec Ideal S1024x64 .f32) (r : Fin 32768) :
    rowOf (distances z e) r = Spec.dist (rowOf z r) e := by
  funext k
  unfold rowOf Spec.dist
  rw [← two_word]
  pointwise [distances]

/-! ## The position of the least distance -/

/-- One pair comes before another: its value is less, or the same with a position no greater. -/
def Before (p q : EReal × BitVec 32) : Prop := p.1 < q.1 ∨ p.1 = q.1 ∧ p.2.toInt ≤ q.2.toInt

theorem Before.refl (p : EReal × BitVec 32) : Before p p := Or.inr ⟨rfl, le_rfl⟩

theorem Before.trans {p q s : EReal × BitVec 32} (h : Before p q) (h' : Before q s) : Before p s := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- One step of the search keeps one of its two pairs, and that one comes before both. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨va, ia⟩ := a
  obtain ⟨vb, ib⟩ := b
  rcases lt_trichotomy va vb with h | h | h
  · have e : reducer_argmin_f32_i32 (F := Ideal) (va, ia) (vb, ib) = (va, ia) := by
      simp [reducer_argmin_f32_i32, Ideal.cmpf_def, Ideal.cmp, h, h.ne, Scalar.select, IntOp.ori, IntOp.andi, IntOp.cmpi]
    rw [e]
    exact ⟨Or.inl rfl, Before.refl _, Or.inl h⟩
  · subst h
    by_cases i : ia.toInt < ib.toInt
    · have e : reducer_argmin_f32_i32 (F := Ideal) (va, ia) (va, ib) = (va, ia) := by
        simp [reducer_argmin_f32_i32, Ideal.cmpf_def, Ideal.cmp, i, Scalar.select, IntOp.ori, IntOp.andi, IntOp.cmpi, BitVec.slt_eq_decide]
      rw [e]
      exact ⟨Or.inl rfl, Before.refl _, Or.inr ⟨rfl, i.le⟩⟩
    · have e : reducer_argmin_f32_i32 (F := Ideal) (va, ia) (va, ib) = (va, ib) := by
        simp [reducer_argmin_f32_i32, Ideal.cmpf_def, Ideal.cmp, i, Scalar.select, IntOp.ori, IntOp.andi, IntOp.cmpi, BitVec.slt_eq_decide]
      rw [e]
      exact ⟨Or.inr rfl, Or.inr ⟨rfl, not_lt.1 i⟩, Before.refl _⟩
  · have e : reducer_argmin_f32_i32 (F := Ideal) (va, ia) (vb, ib) = (vb, ib) := by
      simp [reducer_argmin_f32_i32, Ideal.cmpf_def, Ideal.cmp, h.ne', h.not_gt, Scalar.select, IntOp.ori, IntOp.andi, IntOp.cmpi]
    rw [e]
    exact ⟨Or.inr rfl, Or.inl h, Before.refl _⟩

/-- The search over a list keeps the start or a pair of the list, and that one comes before all of them. -/
theorem search_spec (L : List (EReal × BitVec 32)) (p : EReal × BitVec 32) :
    (L.foldl (reducer_argmin_f32_i32 (F := Ideal)) p = p ∨ L.foldl (reducer_argmin_f32_i32 (F := Ideal)) p ∈ L)
      ∧ Before (L.foldl (reducer_argmin_f32_i32 (F := Ideal)) p) p ∧ ∀ q ∈ L, Before (L.foldl (reducer_argmin_f32_i32 (F := Ideal)) p) q := by
  induction L generalizing p with
  | nil => exact ⟨Or.inl rfl, Before.refl p, fun q hq => absurd hq List.not_mem_nil⟩
  | cons a L ih =>
    obtain ⟨hm, hb, hl⟩ := ih (reducer_argmin_f32_i32 (F := Ideal) p a)
    obtain ⟨sm, sp, sa⟩ := step_spec p a
    rw [List.foldl_cons]
    refine ⟨?_, hb.trans sp, fun q hq => ?_⟩
    · rcases hm with hm | hm
      · rcases sm with sm | sm
        · exact Or.inl (hm.trans sm)
        · exact Or.inr (by rw [hm, sm]; exact List.mem_cons_self ..)
      · exact Or.inr (List.mem_cons_of_mem _ hm)
    · rcases List.mem_cons.1 hq with rfl | hq
      · exact hb.trans sa
      · exact hl q hq

/-- The pairs of one row of a matrix, each entry with its position, are those the search of that row goes through. -/
theorem mem_fiber {n k : Nat} (h : (⟨2, ![n, k]⟩ : Shape).ReducesTo [1] ⟨1, ![n]⟩) (d : Mat n k) (r : Fin n) (q : EReal × BitVec 32) :
    q ∈ Host.argReduceFiber d (iotaInDim ⟨2, ![n, k]⟩ 32 1) h (ix1 r)
      ↔ ∃ c : Fin k, q = (d (ix2 r c), BitVec.ofNat 32 c.val) := by
  have drop0 : ∀ i : (⟨2, ![n, k]⟩ : Shape).Idx, (h.drop i 0).val = (i 0).val :=
    fun i => rfl
  unfold Host.argReduceFiber
  simp only [List.mem_map, List.mem_filter, List.mem_finRange, true_and, decide_eq_true_eq]
  constructor
  · rintro ⟨m, hm, rfl⟩
    generalize (⟨2, ![n, k]⟩ : Shape).rowMajor.symm m = i at hm ⊢
    have hr : i 0 = r := Fin.ext ((drop0 i).symm.trans (congrArg (fun j : (⟨1, ![n]⟩ : Shape).Idx => (j 0).val) hm))
    refine ⟨i 1, ?_⟩
    rw [← hr, ← eq_ix2 i]
    rfl
  · rintro ⟨c, rfl⟩
    refine ⟨(⟨2, ![n, k]⟩ : Shape).rowMajor (ix2 r c), ?_, ?_⟩
    · rw [Equiv.symm_apply_apply]
      funext a
      obtain rfl : a = 0 := Subsingleton.elim _ _
      exact Fin.ext (drop0 (ix2 r c))
    · rw [Equiv.symm_apply_apply]
      rfl

/-- The search over the pairs of a family, each value with its position, from `+∞` at 0, ends at the first position of the
    least value. -/
theorem search_first {n : Nat} [NeZero n] (hn : n < 2147483648) (d : Fin n → EReal) (L : List (EReal × BitVec 32))
    (hL : ∀ q, q ∈ L ↔ ∃ c : Fin n, q = (d c, BitVec.ofNat 32 c.val)) :
    (L.foldl (reducer_argmin_f32_i32 (F := Ideal)) (⊤, 0#32)).2 = BitVec.ofNat 32 (firstMin d).val := by
  obtain ⟨hm, -, hl⟩ := search_spec L (⊤, 0#32)
  have hl' : ∀ c : Fin n, Before (L.foldl (reducer_argmin_f32_i32 (F := Ideal)) (⊤, 0#32)) (d c, BitVec.ofNat 32 c.val) :=
    fun c => hl _ ((hL _).2 ⟨c, rfl⟩)
  have hp : ∃ c : Fin n, L.foldl (reducer_argmin_f32_i32 (F := Ideal)) (⊤, 0#32) = (d c, BitVec.ofNat 32 c.val) := by
    rcases hm with hm | hm
    · refine ⟨0, hm.trans (Prod.ext ?_ rfl)⟩
      have h0 := hl' 0
      rw [hm] at h0
      rcases h0 with h | ⟨h, -⟩
      · exact absurd h not_top_lt
      · exact h
    · exact (hL _).1 hm
  obtain ⟨c, hc⟩ := hp
  rw [hc] at hl' ⊢
  refine congrArg (fun c : Fin n => BitVec.ofNat 32 c.val) (IsFirstMin.eq_firstMin ⟨fun j => ?_, fun j hj => ?_⟩)
  · rcases hl' j with h | ⟨h, -⟩
    · exact h.le
    · exact h.le
  · rcases hl' j with h | ⟨-, h⟩
    · exact absurd h (not_lt.2 hj)
    · dsimp only at h
      rw [toInt_count (by omega), toInt_count (by omega)] at h
      exact Fin.le_def.2 (by exact_mod_cast h)

/-- A search of one row of a matrix, from `+∞` at 0, ends at the first position where the row is least. -/
theorem argReduce_row {n k : Nat} [NeZero k] (hk : k < 2147483648) {u : Shape} (h : (⟨2, ![n, k]⟩ : Shape).ReducesTo [1] ⟨1, ![n]⟩)
    (hu : 0 < u.numel) (d : FVec Ideal ⟨2, ![n, k]⟩ .f32) (ix : FVec Ideal u .f32) (iy : IVec u 32) (hx : ix (Shape.Idx.first hu) = (⊤ : EReal))
    (hy : iy (Shape.Idx.first hu) = 0#32) (r : Fin n) :
    (Host.argReduce (reducer_argmin_f32_i32 (F := Ideal)) d (iotaInDim ⟨2, ![n, k]⟩ 32 1) ix iy h hu (ix1 r)).2
      = BitVec.ofNat 32 (firstMin (rowOf d r)).val := by
  rw [Ideal.argReduce_eq_reduce2, Host.reduce2_eq_foldl_fiber, hx, hy]
  exact search_first hk (rowOf d r) _ (mem_fiber h d r)

/-- The same for all rows together. -/
theorem argReduce_rows {n k : Nat} [NeZero k] (hk : k < 2147483648) {u : Shape} (h : (⟨2, ![n, k]⟩ : Shape).ReducesTo [1] ⟨1, ![n]⟩)
    (hu : 0 < u.numel) (d : FVec Ideal ⟨2, ![n, k]⟩ .f32) (ix : FVec Ideal u .f32) (iy : IVec u 32) (hx : ix (Shape.Idx.first hu) = (⊤ : EReal))
    (hy : iy (Shape.Idx.first hu) = 0#32) :
    (fun j => (Host.argReduce (reducer_argmin_f32_i32 (F := Ideal)) d (iotaInDim ⟨2, ![n, k]⟩ 32 1) ix iy h hu j).2)
      = fun j : (⟨1, ![n]⟩ : Shape).Idx => BitVec.ofNat 32 (firstMin (rowOf d (j 0))).val := by
  funext j
  obtain ⟨r, rfl⟩ : ∃ r, j = ix1 r := ⟨j 0, eq_ix1 j⟩
  exact argReduce_row hk h hu d ix iy hx hy r

/-- The position found in each row is the first where the row is least. -/
theorem argmins_eq (d : FVec Ideal S32768x1024 .f32) :
    argmins d = fun j => BitVec.ofNat 32 (firstMin (rowOf d (j 0))).val :=
  argReduce_rows (by norm_num) reducesTo_S32768x1024_S32768_d1 h_S_ d (constant S_ .f32 0x7F800000#32) (constantI S_ 32 0#32) top_word rfl

end Cert.ReferenceIdeal.Value

end
-- ==== Proof.ReferenceLookup.lean ====
/- The reference's look-up of the nearest codewords, its quantised encodings and its loss over the extended reals, in the
   terms of `Cert.Spec`. -/
module

public import proofs.«01_k».proof.Proof.ReferenceRows
public import Idealize.ShloMosaic.Lib.Routing.Ops

@[expose] public section

set_option maxRecDepth 16384

noncomputable section

namespace Cert.ReferenceIdeal.Value

open Cert.ReferenceIdeal Cert.ReferenceIdeal.Gen Idealize.ShloMosaic Cert.Spec Cert.Numbers

/-! ## The look-up -/

/-- A conjunction over bits that are all set is set. -/
theorem reduce_and {s t u : Shape} {axes : List (Fin s.rank)} (x : IVec s 1) (i : IVec u 1) (h : s.ReducesTo axes t) (hu : 0 < u.numel)
    (hx : ∀ j, x j = 1#1) (hi : ∀ j, i j = 1#1) : Host.reduce IntOp.andi x i h hu = fun _ => 1#1 := by
  funext j
  rw [Host.reduce_eq_foldl, hi]
  generalize List.filter _ _ = L
  induction L with
  | nil => rfl
  | cons a L ih =>
    rw [List.foldl_cons, hx]
    exact ih

/-- A position inside the codebook is not counted from its end. -/
theorem wrapped_apply (k : Fin 32768 → Fin 1024) (r : Fin 32768) (u : Fin 1) :
    wrapped (fun j => BitVec.ofNat 32 (k (j 0)).val) (ix2 r u) = BitVec.ofNat 32 (k r).val := by
  have h : IntOp.cmpi .slt (BitVec.ofNat 32 (k r).val) 0#32 = 0#1 := by
    have hk := (k r).isLt
    simp only [IntOp.cmpi, BitVec.slt_eq_decide, toInt_count (show (k r).val < 2147483648 by omega)]
    rw [decide_eq_false (by simp)]
    rfl
  pointwise [wrapped]
  simp only [h]
  rfl

/-- Positions inside the codebook are inside. -/
theorem inside_wrapped (k : Fin 32768 → Fin 1024) : inside (wrapped fun j => BitVec.ofNat 32 (k (j 0)).val) = fun _ => 1#1 := by
  refine reduce_and _ _ reducesTo_S32768x1_S32768_d1 h_S_ (fun j => ?_) fun _ => rfl
  obtain ⟨r, u, rfl⟩ : ∃ r u, j = ix2 r u := ⟨j 0, j 1, eq_ix2 j⟩
  have hk := (k r).isLt
  have lo : IntOp.cmpi .sge (BitVec.ofNat 32 (k r).val) 0#32 = 1#1 := by
    simp only [IntOp.cmpi, BitVec.sle_eq_decide, toInt_count (show (k r).val < 2147483648 by omega)]
    rw [decide_eq_true (by simp)]
    rfl
  have hi : IntOp.cmpi .sle (BitVec.ofNat 32 (k r).val) 1023#32 = 1#1 := by
    simp only [IntOp.cmpi, BitVec.sle_eq_decide, toInt_count (show (k r).val < 2147483648 by omega)]
    rw [decide_eq_true (by rw [show (1023#32 : BitVec 32).toInt = 1023 by decide]; omega)]
    rfl
  pointwise []
  rw [wrapped_apply, lo, hi]
  rfl

/-- The codeword looked up for each row. -/
theorem looked_apply (e : FVec Ideal S1024x64 .f32) (k : Fin 32768 → Fin 1024) (r : Fin 32768) (l : Fin 64) :
    looked e (fun j => BitVec.ofNat 32 (k (j 0)).val) (ix2 r l) = e (ix2 (k r) l) := by
  unfold looked
  rw [inside_wrapped]
  pointwise []
  exact Routing.gather_row gather_S1024x64_S32768x1_S32768x64_1_0_n_n_0_1_164 rfl rfl rfl rfl rfl e _ r l (k r) (wrapped_apply k r 0) (by norm_num)

/-! ## The loss -/

/-- The codebook's part of the loss: five quarters of the mean of the squared gaps. -/
theorem bookLoss_eq (q z : FVec Ideal S32768x64 .f32) :
    bookLoss q z = fun _ => ((5 / 4 : ℝ) : EReal)
      * Ideal.div (∑ r : Fin 32768, sumSq fun i : Fin 64 => rowOf q r i - rowOf z r i) ((2097152 : ℝ) : EReal) := by
  funext j
  rw [← add_quarter, ← quarter_word, ← encodings_word]
  unfold sumSq rowOf
  pointwise [bookLoss, meanSq]

/-- The mean of the squared reconstruction errors. -/
theorem meanErr_eq (y x : FVec Ideal S32768x256 .f32) :
    meanErr y x = fun _ => Ideal.div (∑ r : Fin 32768, sumSq fun i : Fin 256 => rowOf y r i - rowOf x r i) ((8388608 : ℝ) : EReal) := by
  funext j
  rw [← entries_word]
  unfold sumSq rowOf
  pointwise [meanErr]

end Cert.ReferenceIdeal.Value

end
-- ==== Proof.ReferenceValue.lean ====
/- What the reference leaves in its two results over the extended reals: the quantised encoding of every row, and the loss. -/
module

public import proofs.«01_k».proof.Proof.ReferenceLookup

@[expose] public section

set_option maxRecDepth 16384

noncomputable section

namespace Cert.ReferenceIdeal.Value

open Cert.ReferenceIdeal Cert.ReferenceIdeal.Gen Idealize.ShloMosaic Idealize.ShloMosaic.StableHlo Cert.Spec Cert.Numbers

/-! ## The stages put together -/

section Stages

variable (N : Net) (X : Mat 32768 256)

/-- The encodings of the batch. -/
abbrev encodings : FVec Ideal S32768x64 .f32 := encoded X N.W1 N.b1 N.W2 N.b2 N.W3 N.b3

/-- The nearest codewords of the batch. -/
abbrev nearest : FVec Ideal S32768x64 .f32 := looked N.emb (argmins (distances (encodings N X) N.emb))

/-- The quantised encodings of the batch. -/
abbrev quantised : FVec Ideal S32768x64 .f32 := addf (encodings N X) (subf (nearest N X) (encodings N X))

/-- The reconstructions of the batch. -/
abbrev rebuilt : FVec Ideal S32768x256 .f32 :=
  relu256 (affine4 (relu64 (affine3 (relu128 (affine2 (quantised N X) N.W4 N.b4)) N.W5 N.b5)) N.W6 N.b6)

theorem encodings_row (r : Fin 32768) : rowOf (encodings N X) r = N.enc (rowOf X r) := encoded_row X _ _ _ _ _ _ r

/-- The nearest codewords are looked up at the first position of each row's least distance. -/
theorem nearest_eq : nearest N X
    = looked (F := Ideal) N.emb fun j => BitVec.ofNat 32 (firstMin (rowOf (distances (encodings N X) N.emb) (j 0))).val :=
  congrArg (looked (F := Ideal) N.emb) (argmins_eq (distances (encodings N X) N.emb))

/-- The codeword looked up for a row, minus the row's encoding, is the row's gap. -/
theorem gap_row (r : Fin 32768) (l : Fin 64) : rowOf (nearest N X) r l - rowOf (encodings N X) r l = N.gap (rowOf X r) l := by
  have h : rowOf (nearest N X) r l = N.emb (ix2 (firstMin (Spec.dist (N.enc (rowOf X r)) N.emb)) l) := by
    refine (congrFun (nearest_eq N X) (ix2 r l)).trans ?_
    refine (looked_apply N.emb (fun r => firstMin (rowOf (distances (encodings N X) N.emb) r)) r l).trans ?_
    rw [distances_row, encodings_row]
  rw [h, encodings_row]
  rfl

/-- The quantised encoding of a row. -/
theorem quantised_row (r : Fin 32768) : rowOf (quantised N X) r = N.latent (rowOf X r) := by
  funext l
  show rowOf (encodings N X) r l + (rowOf (nearest N X) r l - rowOf (encodings N X) r l) = _
  rw [gap_row, encodings_row]
  rfl

/-- The reconstruction of a row, minus the row. -/
theorem err_row (r : Fin 32768) (i : Fin 256) : rowOf (rebuilt N X) r i - rowOf X r i = N.err (rowOf X r) i := by
  unfold rebuilt
  rw [decoded_row, quantised_row]
  rfl

/-- The quantised encodings, entry by entry. -/
theorem quantised_eq : quantised N X = fun i => N.latent (rowOf X (i 0)) (i 1) := by
  funext i
  obtain ⟨r, l, rfl⟩ : ∃ r l, i = ix2 r l := ⟨i 0, i 1, eq_ix2 i⟩
  exact congrFun (quantised_row N X r) l

/-- The sum of the two parts of the loss is the loss of the batch. -/
theorem total_eq : addf (meanErr (rebuilt N X) X) (bookLoss (nearest N X) (encodings N X))
    = fun _ => loss (∑ r, sumSq (N.gap (rowOf X r))) (∑ r, sumSq (N.err (rowOf X r))) := by
  rw [meanErr_eq, bookLoss_eq]
  simp only [gap_row, err_row]
  rfl

end Stages

/-! ## The results of the run -/

section Run

variable (V : Valuation τ sig (Elt Ideal))

/-- The batch among the launch's arrays. -/
abbrev batch : Mat 32768 256 := V (Proc.devRef .tc main_arg0)

/-- The network's parameters among the launch's arrays. -/
abbrev net : Net := ⟨V (Proc.devRef .tc main_arg1), V (Proc.devRef .tc main_arg2), V (Proc.devRef .tc main_arg3), V (Proc.devRef .tc main_arg4),
  V (Proc.devRef .tc main_arg5), V (Proc.devRef .tc main_arg6), V (Proc.devRef .tc main_arg7), V (Proc.devRef .tc main_arg8),
  V (Proc.devRef .tc main_arg9), V (Proc.devRef .tc main_arg10), V (Proc.devRef .tc main_arg11), V (Proc.devRef .tc main_arg12),
  V (Proc.devRef .tc main_arg13)⟩

/-- The contents after the first four stages. -/
abbrev taken : Valuation τ sig (Elt Ideal) := after takeOps (after argminOps (after distOps (after encodeOps V)))

/-- An array that none of the first four stages writes. -/
theorem taken_keep (r : Ref sig .tc) (h : r ∉ takeOps_out ∧ r ∉ argminOps_out ∧ r ∉ distOps_out ∧ r ∉ encodeOps_out) :
    taken V (Proc.devRef .tc r) = V (Proc.devRef .tc r) := by
  unfold taken
  rw [takeOps_keep _ r h.1, argminOps_keep _ r h.2.1, distOps_keep _ r h.2.2.1, encodeOps_keep _ r h.2.2.2]

theorem taken_encodings : taken V (Proc.devRef .tc main_v14) = encodings (net V) (batch V) := by
  unfold taken
  rw [takeOps_keep _ main_v14 (by decide), argminOps_keep _ main_v14 (by decide), distOps_keep _ main_v14 (by decide), encode_after]

theorem taken_nearest : taken V (Proc.devRef .tc main_v30) = nearest (net V) (batch V) := by
  unfold taken
  rw [take_after, argmin_after, argminOps_keep _ main_arg13 (by decide), distOps_keep _ main_arg13 (by decide), encodeOps_keep _ main_arg13 (by decide),
    dist_after, encode_after, encodeOps_keep _ main_arg13 (by decide)]

/-- The contents after the first five stages. -/
abbrev shifted : Valuation τ sig (Elt Ideal) := after shiftOps (taken V)

theorem shifted_latent : shifted V (Proc.devRef .tc main_v42) = quantised (net V) (batch V) := by
  unfold shifted
  rw [latent_after, taken_encodings, taken_nearest]

theorem shifted_loss : shifted V (Proc.devRef .tc main_v40) = bookLoss (nearest (net V) (batch V)) (encodings (net V) (batch V)) := by
  unfold shifted
  rw [shift_after, taken_encodings, taken_nearest]

/-- An array that none of the first five stages writes. -/
theorem shifted_keep (r : Ref sig .tc)
    (h : r ∉ shiftOps_out ∧ r ∉ takeOps_out ∧ r ∉ argminOps_out ∧ r ∉ distOps_out ∧ r ∉ encodeOps_out) :
    shifted V (Proc.devRef .tc r) = V (Proc.devRef .tc r) := by
  unfold shifted
  rw [shiftOps_keep _ r h.1, taken_keep V r h.2]

/-- The reference's first result: the quantised encoding of every row. -/
theorem result_latent : after ops V (Proc.devRef .tc main_v42) = fun i => (net V).latent (rowOf (batch V) (i 0)) (i 1) := by
  rw [after_ops, lossOps_keep _ main_v42 (by decide), outputOps_keep _ main_v42 (by decide), decodeOps_keep _ main_v42 (by decide)]
  exact (shifted_latent V).trans (quantised_eq _ _)

/-- The reconstructions, from the contents after the first five stages. -/
theorem rebuilt_after : after outputOps (after decodeOps (shifted V)) (Proc.devRef .tc main_v57) = rebuilt (net V) (batch V) := by
  rw [output_after, decode_after, decodeOps_keep _ main_arg11 (by decide), decodeOps_keep _ main_arg12 (by decide),
    shifted_latent, shifted_keep V main_arg7 (by decide), shifted_keep V main_arg8 (by decide), shifted_keep V main_arg9 (by decide),
    shifted_keep V main_arg10 (by decide), shifted_keep V main_arg11 (by decide), shifted_keep V main_arg12 (by decide)]

/-- The reference's second result: the loss of the batch. -/
theorem result_loss : after ops V (Proc.devRef .tc main_v63)
    = fun _ => loss (∑ r, sumSq ((net V).gap (rowOf (batch V) r))) (∑ r, sumSq ((net V).err (rowOf (batch V) r))) := by
  rw [after_ops, loss_after]
  have e0 : after outputOps (after decodeOps (shifted V)) (Proc.devRef .tc main_arg0) = batch V := by
    rw [outputOps_keep _ main_arg0 (by decide), decodeOps_keep _ main_arg0 (by decide), shifted_keep V main_arg0 (by decide)]
  have e1 : after outputOps (after decodeOps (shifted V)) (Proc.devRef .tc main_v40) = bookLoss (nearest (net V) (batch V)) (encodings (net V) (batch V)) := by
    rw [outputOps_keep _ main_v40 (by decide), decodeOps_keep _ main_v40 (by decide), shifted_loss]
  rw [rebuilt_after, e0, e1, total_eq]
  rfl

end Run

end Cert.ReferenceIdeal.Value

end
-- ==== Proof.Claims.lean ====
/- The claims about the two programs over the extended reals, from what each of them computes. -/
module

public import proofs.«01_k».proof.Defs
public import proofs.«01_k».proof.Proof.KernelValue
public import proofs.«01_k».proof.Proof.ReferenceValue
public import proofs.«01_k».proof.Proof.Gen.KernelIdeal.Value
public import Idealize.ShloMosaic.Adequacy
public import Idealize.ShloMosaic.Init

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The reference's run: it terminates on every device with its two results at what the list of operations leaves in them,
    and its arguments as they were. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = after ops (launchContents m c) (Proc.devRef .tc main_v42)
      ∧ r.2.mem ((c.tc : Thread nD τ).loc main_v63) = after ops (launchContents m c) (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c =>
    have keep : ∀ b ∈ arguments, r.2.mem ((c.tc : Thread nD τ).loc b) = m ((c.tc : Thread nD τ).loc b) :=
      fun b hb => (h c b).trans (argument_keep (launchContents m c) b hb)
    ⟨h c main_v42, h c main_v63, keep main_arg0 (by decide), keep main_arg1 (by decide), keep main_arg2 (by decide), keep main_arg3 (by decide), keep main_arg4 (by decide), keep main_arg5 (by decide), keep main_arg6 (by decide), keep main_arg7 (by decide), keep main_arg8 (by decide), keep main_arg9 (by decide), keep main_arg10 (by decide), keep main_arg11 (by decide), keep main_arg12 (by decide), keep main_arg13 (by decide)⟩) (run (F := Ideal) m ρ)

end Cert.ReferenceIdeal.Value

namespace Cert.Proof

open Idealize.ShloMosaic Idealize.SL.Sem Cert.Spec

/-- The reference terminates without fault and leaves its arguments as they were. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run_results m ρ)

/-- The kernel's two results are the quantised encodings and the loss of the batch, and so are the reference's. -/
theorem same_values : Cert.algebraic_KernelIdeal_ReferenceIdeal := by
  intro m ρ m' ρ' _ hagree
  refine ⟨fun c => Cert.KernelIdeal.Value.latents (Cert.KernelIdeal.Value.net m c) (Cert.KernelIdeal.Value.batch m c),
    fun c _ => Cert.KernelIdeal.Value.batchLoss (Cert.KernelIdeal.Value.net m c) (Cert.KernelIdeal.Value.batch m c), ?_, ?_⟩
  · exact (θ_run Cert.KernelIdeal.defs _ _).mono (fun r h c =>
      ⟨(h c).1.trans (Cert.KernelIdeal.Value.result_latent m c), (h c).2.1.trans (Cert.KernelIdeal.Value.result_loss m c), (h c).2.2⟩)
      (Cert.KernelIdeal.Value.run_blocks m ρ)
  · refine (θ_run Cert.ReferenceIdeal.defs _ _).mono (fun r h c => ?_) (Cert.ReferenceIdeal.Value.run_results m' ρ')
    obtain ⟨e0, e1, e2, e3, e4, e5, e6, e7, e8, e9, e10, e11, e12, e13⟩ := hagree c
    have eX : Cert.ReferenceIdeal.Value.batch (StableHlo.launchContents m' c) = Cert.KernelIdeal.Value.batch m c := e0
    have eN : Cert.ReferenceIdeal.Value.net (StableHlo.launchContents m' c) = Cert.KernelIdeal.Value.net m c :=
      Cert.KernelIdeal.Value.net_congr e1 e2 e3 e4 e5 e6 e7 e8 e9 e10 e11 e12 e13
    have h0 := (h c).1.trans (Cert.ReferenceIdeal.Value.result_latent (StableHlo.launchContents m' c))
    have h1 := (h c).2.1.trans (Cert.ReferenceIdeal.Value.result_loss (StableHlo.launchContents m' c))
    rw [eX, eN] at h0 h1
    exact ⟨h0, h1, (h c).2.2⟩

end Cert.Proof

end
-- ==== Proof.lean ====
module

public import proofs.«01_k».proof.Defs
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims: the three frames, that the ideal program is the kernel, and that kernel and reference compute the same. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_values⟩

end Cert.Proof

end
